-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .bf16) (main_arg1 : FVec F S512x256 .bf16) (main_arg2 : FVec F S2x128x4x64 .bf16) (main_arg3 : FVec F S2x128x4x64 .bf16) (main_arg4 : FVec F S256x512 .bf16) : IVec S2x128x512 1 × IVec S512x256 1 × IVec S2x128x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x4x64 .bf16 := Host.absf main_arg2
  let main_cst_1 : FVec F S_ .bf16 := constant S_ .bf16 0x7F80#16
  let main_v7 : FVec F S2x128x4x64 .bf16 := broadcastInDim S2x128x4x64 ![] bcast_S_S2x128x4x64 main_cst_1
  let main_v8 : IVec S2x128x4x64 1 := cmpf .olt main_v6 main_v7
  (main_v2, main_v5, main_v8)
-- ==== Pre_finite_inputs_ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x512x4x64 : S_.BroadcastsInDim S2x512x4x64 (![] : Fin 0 → Fin S2x512x4x64.rank)

variable [Facts]

def fn {F : FTy → Type} [FloatOps F] (main_arg0 : FVec F S2x128x512 .bf16) (main_arg1 : FVec F S512x256 .bf16) (main_arg2 : FVec F S2x512x4x64 .bf16) (main_arg3 : FVec F S2x512x4x64 .bf16) (main_arg4 : FVec F S256x512 .bf16) : IVec S2x128x512 1 × IVec S512x256 1 × IVec S2x512x4x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x512x4x64 .bf16 := Host.absf main_arg2
  let main_cst_1 : FVec F S_ .bf16 := constant S_ .bf16 0x7F80#16
  let main_v7 : FVec F S2x512x4x64 .bf16 := broadcastInDim S2x512x4x64 ![] bcast_S_S2x512x4x64 main_cst_1
  let main_v8 : IVec S2x512x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x128x256 : Shape := ⟨3, ![2, 128, 256]⟩
abbrev S2x2x2x128x256 : Shape := ⟨5, ![2, 2, 2, 128, 256]⟩
abbrev S3 : Shape := ⟨1, ![3]⟩
abbrev S2 : Shape := ⟨1, ![2]⟩
abbrev S_ : Shape := ⟨0, ![]⟩
abbrev S1x1x2x128x256 : Shape := ⟨5, ![1, 1, 2, 128, 256]⟩
abbrev S1 : Shape := ⟨1, ![1]⟩
abbrev S1x2x2x128x256 : Shape := ⟨5, ![1, 2, 2, 128, 256]⟩
abbrev S2x2x128x256 : Shape := ⟨4, ![2, 2, 128, 256]⟩
abbrev S256x256 : Shape := ⟨2, ![256, 256]⟩
abbrev S128x128 : Shape := ⟨2, ![128, 128]⟩
abbrev S1x1x1x128x256 : Shape := ⟨5, ![1, 1, 1, 128, 256]⟩
abbrev S128x256 : Shape := ⟨2, ![128, 256]⟩
abbrev S128x64 : Shape := ⟨2, ![128, 64]⟩
abbrev S128 : Shape := ⟨1, ![128]⟩
abbrev S128x1 : Shape := ⟨2, ![128, 1]⟩

abbrev nBuf : Space → Nat
  | .hbm => 10
  | .vmem => 7
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x4x64, .bf16⟩
  | .hbm, ⟨3, _⟩ => ⟨S2x128x4x64, .bf16⟩
  | .hbm, ⟨4, _⟩ => ⟨S256x512, .bf16⟩
  | .hbm, ⟨5, _⟩ => ⟨S256x512, .bf16⟩
  | .hbm, ⟨6, _⟩ => ⟨S2x128x256, .bf16⟩
  | .hbm, ⟨7, _⟩ => ⟨S2x128x256, .bf16⟩
  | .hbm, ⟨8, _⟩ => ⟨S256x512, .f32⟩
  | .hbm, ⟨9, _⟩ => ⟨S2x128x512, .f32⟩
  | .local _ .vmem, ⟨0, _⟩ => ⟨S256x512, .bf16⟩
  | .local _ .vmem, ⟨1, _⟩ => ⟨S512x256, .bf16⟩
  | .local _ .vmem, ⟨2, _⟩ => ⟨S2x128x256, .bf16⟩
  | .local _ .vmem, ⟨3, _⟩ => ⟨S2x128x256, .bf16⟩
  | .local _ .vmem, ⟨4, _⟩ => ⟨S256x512, .bf16⟩
  | .local _ .vmem, ⟨5, _⟩ => ⟨S256x512, .f32⟩
  | .local _ .vmem, ⟨6, _⟩ => ⟨S2x2x2x128x256, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v16 : BitVec 1 := Scalar.cmpi .eq v2 c0_i32_13
  let v17 : BitVec 32 := Scalar.extui v16
  let c0_i32_14 : BitVec 32 := 0#32
  let v18 : BitVec 1 := Scalar.cmpi .ne v17 c0_i32_14
  v18

def k0_dev4 : Nat :=
  let c0_i32_145 : BitVec 32 := 0#32
  let c1_i32_143 : BitVec 32 := 1#32
  let c1_i32_144 : BitVec 32 := 1#32
  let v266 : BitVec 32 := Scalar.muli c1_i32_143 c1_i32_144
  let v267 : BitVec 32 := Scalar.addi c0_i32_145 v266
  v267.toNat
def k0_dev5 : Nat :=
  let c0_i32_160 : BitVec 32 := 0#32
  let c2_i32_158 : BitVec 32 := 2#32
  let c1_i32_159 : BitVec 32 := 1#32
  let v276 : BitVec 32 := Scalar.muli c2_i32_158 c1_i32_159
  let v277 : BitVec 32 := Scalar.addi c0_i32_160 v276
  v277.toNat
def k0_dev6 : Nat :=
  let c0_i32_175 : BitVec 32 := 0#32
  let c3_i32_173 : BitVec 32 := 3#32
  let c1_i32_174 : BitVec 32 := 1#32
  let v286 : BitVec 32 := Scalar.muli c3_i32_173 c1_i32_174
  let v287 : BitVec 32 := Scalar.addi c0_i32_175 v286
  v287.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_15 : BitVec 32 := 1#32
  let v19 : BitVec 1 := Scalar.cmpi .eq v2 c1_i32_15
  let v20 : BitVec 32 := Scalar.extui v19
  let c0_i32_16 : BitVec 32 := 0#32
  let v21 : BitVec 1 := Scalar.cmpi .ne v20 c0_i32_16
  v21

def k0_dev7 : Nat :=
  let c0_i32_145 : BitVec 32 := 0#32
  let c0_i32_143 : BitVec 32 := 0#32
  let c1_i32_144 : BitVec 32 := 1#32
  let v266 : BitVec 32 := Scalar.muli c0_i32_143 c1_i32_144
  let v267 : BitVec 32 := Scalar.addi c0_i32_145 v266
  v267.toNat
def k0_dev8 : Nat :=
  let c0_i32_160 : BitVec 32 := 0#32
  let c2_i32_158 : BitVec 32 := 2#32
  let c1_i32_159 : BitVec 32 := 1#32
  let v276 : BitVec 32 := Scalar.muli c2_i32_158 c1_i32_159
  let v277 : BitVec 32 := Scalar.addi c0_i32_160 v276
  v277.toNat
def k0_dev9 : Nat :=
  let c0_i32_175 : BitVec 32 := 0#32
  let c3_i32_173 : BitVec 32 := 3#32
  let c1_i32_174 : BitVec 32 := 1#32
  let v286 : BitVec 32 := Scalar.muli c3_i32_173 c1_i32_174
  let v287 : BitVec 32 := Scalar.addi c0_i32_175 v286
  v287.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S_ : Shape := ⟨0, ![]⟩
abbrev S2x4x128x512 : Shape := ⟨4, ![2, 4, 128, 512]⟩
abbrev S1x1x128x512 : Shape := ⟨4, ![1, 1, 128, 512]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 62
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x512x4x64, .bf16⟩
  | .hbm, ⟨3, _⟩ => ⟨S2x512x4x64, .bf16⟩
  | .hbm, ⟨4, _⟩ => ⟨S256x512, .bf16⟩
  | .hbm, ⟨5, _⟩ => ⟨S2x128x256, .f32⟩
  | .hbm, ⟨6, _⟩ => ⟨S2x128x256, .bf16⟩
  | .hbm, ⟨7, _⟩ => ⟨S2x128x4x64, .bf16⟩
  | .hbm, ⟨8, _⟩ => ⟨S128, .i32⟩
  | .hbm, ⟨9, _⟩ => ⟨S128x1, .i32⟩
  | .hbm, ⟨10, _⟩ => ⟨S512, .i32⟩
  | .hbm, ⟨11, _⟩ => ⟨S1x512, .i32⟩
  | .hbm, ⟨12, _⟩ => ⟨S128x512, .i32⟩
  | .hbm, ⟨13, _⟩ => ⟨S128x512, .i32⟩
  | .hbm, ⟨14, _⟩ => ⟨S128x512, .i32⟩
  | .hbm, ⟨15, _⟩ => ⟨S128x512, .i32⟩
  | .hbm, ⟨16, _⟩ => ⟨S_, .i32⟩
  | .hbm, ⟨17, _⟩ => ⟨S128x512, .i32⟩
  | .hbm, ⟨18, _⟩ => ⟨S128x512, .i1⟩
  | .hbm, ⟨19, _⟩ => ⟨S2x4x128x512, .f32⟩
  | .hbm, ⟨20, _⟩ => ⟨S2x4x128x512, .bf16⟩
  | .hbm, ⟨21, _⟩ => ⟨S2x4x128x512, .f32⟩
  | .hbm, ⟨22, _⟩ => ⟨S_, .f32⟩
  | .hbm, ⟨23, _⟩ => ⟨S2x4x128x512, .f32⟩
  | .hbm, ⟨24, _⟩ => ⟨S2x4x128x512, .f32⟩
  | .hbm, ⟨25, _⟩ => ⟨S1x1x128x512, .i1⟩
  | .hbm, ⟨26, _⟩ => ⟨S_, .f32⟩
  | .hbm, ⟨27, _⟩ => ⟨S_, .f32⟩
  | .hbm, ⟨28, _⟩ => ⟨S2x4x128x512, .i1⟩
  | .hbm, ⟨29, _⟩ => ⟨S2x4x128x512, .f32⟩
  | .hbm, ⟨30, _⟩ => ⟨S2x4x128x512, .f32⟩
  | .hbm, ⟨31, _⟩ => ⟨S_, .f32⟩
  | .hbm, ⟨32, _⟩ => ⟨S2x4x128, .f32⟩
  | .hbm, ⟨33, _⟩ => ⟨S2x4x128x1, .f32⟩
  | .hbm, ⟨34, _⟩ => ⟨S2x4x128x512, .f32⟩
  | .hbm, ⟨35, _⟩ => ⟨S2x4x128x512, .f32⟩
  | .hbm, ⟨36, _⟩ => ⟨S2x4x128x512, .f32⟩
  | .hbm, ⟨37, _⟩ => ⟨S_, .i1⟩
  | .hbm, ⟨38, _⟩ => ⟨S128, .i1⟩
  | .hbm, ⟨39, _⟩ => ⟨S1x1x128x1, .i1⟩
  | .hbm, ⟨40, _⟩ => ⟨S_, .f32⟩
  | .hbm, ⟨41, _⟩ => ⟨S2x4x128, .f32⟩
  | .hbm, ⟨42, _⟩ => ⟨S2x4x128x1, .f32⟩
  | .hbm, ⟨43, _⟩ => ⟨S_, .f32⟩
  | .hbm, ⟨44, _⟩ => ⟨S_, .f32⟩
  | .hbm, ⟨45, _⟩ => ⟨S2x4x128x1, .i1⟩
  | .hbm, ⟨46, _⟩ => ⟨S2x4x128x1, .f32⟩
  | .hbm, ⟨47, _⟩ => ⟨S2x4x128x1, .f32⟩
  | .hbm, ⟨48, _⟩ => ⟨S2x4x128x512, .f32⟩
  | .hbm, ⟨49, _⟩ => ⟨S2x4x128x512, .f32⟩
  | .hbm, ⟨50, _⟩ => ⟨S1x1x128x1, .i1⟩
  | .hbm, ⟨51, _⟩ => ⟨S_, .f32⟩
  | .hbm, ⟨52, _⟩ => ⟨S_, .f32⟩
  | .hbm, ⟨53, _⟩ => ⟨S2x4x128x512, .i1⟩
  | .hbm, ⟨54, _⟩ => ⟨S2x4x128x512, .f32⟩
  | .hbm, ⟨55, _⟩ => ⟨S2x4x128x512, .f32⟩
  | .hbm, ⟨56, _⟩ => ⟨S2x512x4x64, .f32⟩
  | .hbm, ⟨57, _⟩ => ⟨S2x4x64x128, .f32⟩
  | .hbm, ⟨58, _⟩ => ⟨S2x128x4x64, .f32⟩
  | .hbm, ⟨59, _⟩ => ⟨S2x128x256, .f32⟩
  | .hbm, ⟨60, _⟩ => ⟨S256x512, .f32⟩
  | .hbm, ⟨61, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Proof.Proto.lean ====
/- The exchange of the key and value blocks between the four devices: its cells, what each landing hands over, what is
   owed at launch, and the levels of the waits. Devices 0 and 1 each own one block of keys and values and send it to the
   three other devices; before anything is sent, every device has told every other that it has entered. -/
module

public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.Transfers
public import Idealize.ShloMosaic.Lib.ViewIndex
public import Idealize.ShloMosaic.Lib.StableHlo
public import Idealize.ShloMosaic.Lib.Tactic
public import Idealize.ShloMosaic.Lib.Pipeline.RegionTalk
public import Idealize.ShloMosaic.Harness.Basic

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- Two ghost algebras side by side: the pipeline's, and the exchange's, whose duties are named by the device that
    pays them. -/
abbrev UU : Type := UR sig nD τ × Rounds.URounds (GSem nD τ sig) (Fin 4)

local notation "𝕄" => MT nD τ sig Unit (Elt F) ℕ UU ℕ

abbrev EP : Emb (UR sig nD τ) (MT nD τ sig Unit (Elt F) ℕ UU ℕ) := embL
abbrev ER : Emb (Rounds.URounds (GSem nD τ sig) (Fin 4)) (MT nD τ sig Unit (Elt F) ℕ UU ℕ) := embR

/-! ## Semaphores and memory -/

abbrev bS : Sem sig := (SemArray.scalar (sig.barrier 0 rfl) : Sems sig S_).sem
abbrev sS0 : DmaSem sig := ((cc0_scratch1.slice (Rect.unit (s := S3) ![0] S1.size inb_S3_S1_0)).squeeze S_ squeezes_S1_S_).sem
abbrev sS1 : DmaSem sig := ((cc0_scratch1.slice (Rect.unit (s := S3) ![1] S1.size inb_S3_S1_1)).squeeze S_ squeezes_S1_S_).sem
abbrev sS2 : DmaSem sig := ((cc0_scratch1.slice (Rect.unit (s := S3) ![2] S1.size inb_S3_S1_2)).squeeze S_ squeezes_S1_S_).sem
abbrev rS0 : DmaSem sig := ((cc0_scratch2.slice (Rect.unit (s := S2) ![0] S1.size inb_S2_S1_0)).squeeze S_ squeezes_S1_S_).sem
abbrev rS1 : DmaSem sig := ((cc0_scratch2.slice (Rect.unit (s := S2) ![1] S1.size inb_S2_S1_1)).squeeze S_ squeezes_S1_S_).sem

theorem sS0_eq : sS0 = (6 : Fin 11) := by decide
theorem sS1_eq : sS1 = (7 : Fin 11) := by decide
theorem sS2_eq : sS2 = (8 : Fin 11) := by decide
theorem rS0_eq : rS0 = (9 : Fin 11) := by decide
theorem rS1_eq : rS1 = (10 : Fin 11) := by decide

/-- The scratch memory of the exchange, and its two halves, one for each owner. -/
abbrev scr : Memref sig .tc .vmem S2x2x2x128x256 .bf16 := Memref.whole cc0_scratch0
abbrev S0M : Memref sig .tc .vmem S2x2x128x256 .bf16 :=
  (scr.slice (Rect.unit (s := S2x2x2x128x256) ![0, 0, 0, 0, 0] S1x2x2x128x256.size inb_S2x2x2x128x256_S1x2x2x128x256_0_0_0_0_0) (fun _ => rfl)).squeeze S2x2x128x256 squeezes_S1x2x2x128x256_S2x2x128x256
abbrev S1M : Memref sig .tc .vmem S2x2x128x256 .bf16 :=
  (scr.slice (Rect.unit (s := S2x2x2x128x256) ![1, 0, 0, 0, 0] S1x2x2x128x256.size inb_S2x2x2x128x256_S1x2x2x128x256_1_0_0_0_0) (fun _ => rfl)).squeeze S2x2x128x256 squeezes_S1x2x2x128x256_S2x2x128x256

abbrev N : ℕ := (S0M : Memref sig .tc .vmem S2x2x128x256 .bf16).view.dmaCredit
theorem N_pos : 0 < N := View.dmaCredit_pos _ (by decide)

abbrev scrLoc (c : Dev nD) : Loc nD τ sig := (c : Thread nD τ).loc cc0_scratch0
/-- The elements of the two halves. -/
def Z0 : Finset S2x2x2x128x256.Idx := (S0M : Memref sig .tc .vmem S2x2x128x256 .bf16).view.set
def Z1 : Finset S2x2x2x128x256.Idx := (S1M : Memref sig .tc .vmem S2x2x128x256 .bf16).view.set

abbrev barCell (c : Dev nD) : GSem nD τ sig := ((c : Thread nD τ), .reg bS)
abbrev sc0 (c : Dev nD) : GSem nD τ sig := ((c : Thread nD τ), .dma sS0)
abbrev sc1 (c : Dev nD) : GSem nD τ sig := ((c : Thread nD τ), .dma sS1)
abbrev sc2 (c : Dev nD) : GSem nD τ sig := ((c : Thread nD τ), .dma sS2)
abbrev rc0 (c : Dev nD) : GSem nD τ sig := ((c : Thread nD τ), .dma rS0)
abbrev rc1 (c : Dev nD) : GSem nD τ sig := ((c : Thread nD τ), .dma rS1)

/-- The five scoped semaphores of the exchange. -/
abbrev osem : Fin 5 → SemLoc sig := fun
  | 0 => .dma sS0 | 1 => .dma sS1 | 2 => .dma sS2 | 3 => .dma rS0 | 4 => .dma rS1

/-- A scratch index without its owner and without the choice of key or value: the place in a block. -/
def place (i : S2x2x2x128x256.Idx) : S2x128x256.Idx := fun a => match a with
  | ⟨0, _⟩ => i 2 | ⟨1, _⟩ => i 3 | ⟨2, _⟩ => i 4

/-- Scratch contents holding one owner's keys and values: keys where the second coordinate is 0, values elsewhere. -/
def kvBuf (k v : Vec F S2x128x256 .bf16) : S2x2x2x128x256.Idx → Elt F .bf16 :=
  fun i => if (i 1).val = 0 then k (place i) else v (place i)

/-- A half of device `c`'s scratch at a share and contents. -/
def slot0 (c : Dev nD) (q : PosShare TreeShare) (f : Buf (Elt F) (scrLoc c)) : sProp 𝕄 := scrLoc c ↦[Z0]{q} f
def slot1 (c : Dev nD) (q : PosShare TreeShare) (f : Buf (Elt F) (scrLoc c)) : sProp 𝕄 := scrLoc c ↦[Z1]{q} f

/-! ## The schedule: over every device's keys and values -/

variable (KC VC : Dev nD → Vec F S2x128x256 .bf16)

abbrev kv (c : Dev nD) : S2x2x2x128x256.Idx → Elt F .bf16 := kvBuf (KC c) (VC c)

/-- What device `d` tells device `c` at the barrier: the owner of half 0 (of half 1) receives the right to write that half of
    `d`'s scratch, and that `d`'s receiving cell is open. -/
def barPay (c d : Dev nD) : sProp 𝕄 :=
  if c = 0 then iprop((∃ f, slot0 d fullShare f) ∗ reached ER (rc0 d) 0)
  else if c = 1 then iprop((∃ f, slot1 d fullShare f) ∗ reached ER (rc1 d) 0)
  else iprop(emp)

/-- The sender's own half at a share and what it sent. -/
def sendPay (c : Dev nD) (n : ℕ) : sProp 𝕄 :=
  if c = 0 then slot0 c (Transfers.shareTokN fullShare n) (kv KC VC c)
  else if c = 1 then slot1 c (Transfers.shareTokN fullShare n) (kv KC VC c)
  else iprop(emp)

def recvPay0 (c : Dev nD) : sProp 𝕄 := slot0 c fullShare (kv KC VC 0)
def recvPay1 (c : Dev nD) : sProp 𝕄 := slot1 c fullShare (kv KC VC 1)

def exDuties (g : GSem nD τ sig) (r : ℕ) : Finset (Fin 4) :=
  if r = 0 ∧ g.1.2 = .tc then
    if g.2 = .reg bS then Finset.univ.erase g.1.1
    else if g.2 = .dma sS0 ∨ g.2 = .dma sS1 ∨ g.2 = .dma sS2 then (if g.1.1 = 0 ∨ g.1.1 = 1 then {g.1.1} else ∅)
    else if g.2 = .dma rS0 then (if g.1.1 = 0 then ∅ else {0})
    else if g.2 = .dma rS1 then (if g.1.1 = 1 then ∅ else {1})
    else ∅
  else ∅

def exPayload (g : GSem nD τ sig) (d : Fin 4) : sProp 𝕄 :=
  if g.2 = .reg bS then barPay g.1.1 d
  else if g.2 = .dma sS0 then sendPay KC VC g.1.1 0
  else if g.2 = .dma sS1 then sendPay KC VC g.1.1 1
  else if g.2 = .dma sS2 then sendPay KC VC g.1.1 2
  else if g.2 = .dma rS0 then recvPay0 KC VC g.1.1
  else if g.2 = .dma rS1 then recvPay1 KC VC g.1.1
  else iprop(emp)

/-- One round: at every barrier a unit from each other device; at a sender's cells its own three sends; at the two receiving
    cells of a device the sends of the two owners, each other than the device itself. -/
def exRd : Rounds.Schedule (GSem nD τ sig) (Fin 4) 𝕄 where
  duties g r := exDuties g r
  unitless _ := False
  amount g _ _ := if g.2 = .reg bS then 1 else N
  payload g _ d := exPayload KC VC g d
  amount_pos g _ _ _ := by
    by_cases h : g.2 = .reg bS
    · rw [if_pos h]; exact Nat.one_pos
    · rw [if_neg h]; exact N_pos

instance exRd_storable (g : GSem nD τ sig) (r : ℕ) (d : Fin 4) :
    BI.Storable (upEmb : UEmb _ 𝕄) ((exRd (F := F) KC VC).payload g r d) := by
  show BI.Storable upEmb (exPayload KC VC g d)
  unfold exPayload barPay sendPay recvPay0 recvPay1 slot0 slot1
  (repeat' split) <;> infer_instance

section Sched

variable (c : Dev nD)

theorem dma_ne_reg (s : DmaSem sig) (b : Sem sig) : (SemLoc.dma s : SemLoc sig) ≠ .reg b := fun h => by cases h

theorem s1_ne_s0 : (SemLoc.dma sS1 : SemLoc sig) ≠ .dma sS0 := by decide
theorem s2_ne_s0 : (SemLoc.dma sS2 : SemLoc sig) ≠ .dma sS0 := by decide
theorem s2_ne_s1 : (SemLoc.dma sS2 : SemLoc sig) ≠ .dma sS1 := by decide
theorem r0_ne_s0 : (SemLoc.dma rS0 : SemLoc sig) ≠ .dma sS0 := by decide
theorem r0_ne_s1 : (SemLoc.dma rS0 : SemLoc sig) ≠ .dma sS1 := by decide
theorem r0_ne_s2 : (SemLoc.dma rS0 : SemLoc sig) ≠ .dma sS2 := by decide
theorem r1_ne_s0 : (SemLoc.dma rS1 : SemLoc sig) ≠ .dma sS0 := by decide
theorem r1_ne_s1 : (SemLoc.dma rS1 : SemLoc sig) ≠ .dma sS1 := by decide
theorem r1_ne_s2 : (SemLoc.dma rS1 : SemLoc sig) ≠ .dma sS2 := by decide
theorem r1_ne_r0 : (SemLoc.dma rS1 : SemLoc sig) ≠ .dma rS0 := by decide

theorem duties_later (g : GSem nD τ sig) : ∀ r, 1 ≤ r → (exRd (F := F) KC VC).duties g r = ∅ :=
  fun r hr => by dsimp only [exRd, exDuties]; exact if_neg (fun h => by omega)

theorem duties_bar : (exRd (F := F) KC VC).duties (barCell c) 0 = Finset.univ.erase c := by
  dsimp only [exRd, exDuties]; rw [if_pos ⟨rfl, rfl⟩, if_pos rfl]
theorem duties_s0 : (exRd (F := F) KC VC).duties (sc0 c) 0 = if c = 0 ∨ c = 1 then {c} else ∅ := by
  dsimp only [exRd, exDuties]; rw [if_pos ⟨rfl, rfl⟩, if_neg (dma_ne_reg _ _), if_pos (.inl rfl)]
theorem duties_s1 : (exRd (F := F) KC VC).duties (sc1 c) 0 = if c = 0 ∨ c = 1 then {c} else ∅ := by
  dsimp only [exRd, exDuties]; rw [if_pos ⟨rfl, rfl⟩, if_neg (dma_ne_reg _ _), if_pos (.inr (.inl rfl))]
theorem duties_s2 : (exRd (F := F) KC VC).duties (sc2 c) 0 = if c = 0 ∨ c = 1 then {c} else ∅ := by
  dsimp only [exRd, exDuties]; rw [if_pos ⟨rfl, rfl⟩, if_neg (dma_ne_reg _ _), if_pos (.inr (.inr rfl))]
theorem duties_r0 : (exRd (F := F) KC VC).duties (rc0 c) 0 = if c = 0 then ∅ else {0} := by
  dsimp only [exRd, exDuties]
  rw [if_pos ⟨rfl, rfl⟩, if_neg (dma_ne_reg _ _), if_neg (fun h => h.elim r0_ne_s0 fun h => h.elim r0_ne_s1 r0_ne_s2), if_pos rfl]
theorem duties_r1 : (exRd (F := F) KC VC).duties (rc1 c) 0 = if c = 1 then ∅ else {1} := by
  dsimp only [exRd, exDuties]
  rw [if_pos ⟨rfl, rfl⟩, if_neg (dma_ne_reg _ _), if_neg (fun h => h.elim r1_ne_s0 fun h => h.elim r1_ne_s1 r1_ne_s2),
    if_neg r1_ne_r0, if_pos rfl]

theorem amount_bar (d : Fin 4) : (exRd (F := F) KC VC).amount (barCell c) 0 d = 1 := by dsimp only [exRd]; exact if_pos rfl
theorem amount_dma (s : DmaSem sig) (d : Fin 4) : (exRd (F := F) KC VC).amount ((c : Thread nD τ), .dma s) 0 d = N := by
  dsimp only [exRd]; exact if_neg (dma_ne_reg _ _)

theorem expect_bar : (exRd (F := F) KC VC).expect (barCell c) 0 = 3 := by
  unfold Schedule.expect Schedule.amountOf
  rw [duties_bar, Finset.sum_congr rfl fun d _ => amount_bar KC VC c d]
  revert c; decide
theorem expect_dma (s : DmaSem sig) (d : Fin 4) (h : (exRd (F := F) KC VC).duties ((c : Thread nD τ), .dma s) 0 = {d}) :
    (exRd (F := F) KC VC).expect ((c : Thread nD τ), .dma s) 0 = N := by
  unfold Schedule.expect Schedule.amountOf; rw [h, Finset.sum_singleton, amount_dma]

theorem payload_bar (d : Fin 4) : (exRd (F := F) KC VC).payload (barCell c) 0 d = barPay c d := by
  dsimp only [exRd, exPayload]; exact if_pos rfl
theorem payload_s0 (d : Fin 4) : (exRd (F := F) KC VC).payload (sc0 c) 0 d = sendPay KC VC c 0 := by
  dsimp only [exRd, exPayload]; rw [if_neg (dma_ne_reg _ _), if_pos rfl]
theorem payload_s1 (d : Fin 4) : (exRd (F := F) KC VC).payload (sc1 c) 0 d = sendPay KC VC c 1 := by
  dsimp only [exRd, exPayload]; rw [if_neg (dma_ne_reg _ _), if_neg s1_ne_s0, if_pos rfl]
theorem payload_s2 (d : Fin 4) : (exRd (F := F) KC VC).payload (sc2 c) 0 d = sendPay KC VC c 2 := by
  dsimp only [exRd, exPayload]; rw [if_neg (dma_ne_reg _ _), if_neg s2_ne_s0, if_neg s2_ne_s1, if_pos rfl]
theorem payload_r0 (d : Fin 4) : (exRd (F := F) KC VC).payload (rc0 c) 0 d = recvPay0 KC VC c := by
  dsimp only [exRd, exPayload]; rw [if_neg (dma_ne_reg _ _), if_neg r0_ne_s0, if_neg r0_ne_s1, if_neg r0_ne_s2, if_pos rfl]
theorem payload_r1 (d : Fin 4) : (exRd (F := F) KC VC).payload (rc1 c) 0 d = recvPay1 KC VC c := by
  dsimp only [exRd, exPayload]
  rw [if_neg (dma_ne_reg _ _), if_neg r1_ne_s0, if_neg r1_ne_s1, if_neg r1_ne_s2, if_neg r1_ne_r0, if_pos rfl]

theorem rest_bar : bigSep ((exRd (F := F) KC VC).duties (barCell c) 0 \ ∅) (fun d => (exRd (F := F) KC VC).payload (barCell c) 0 d)
    = bigSep (Finset.univ.erase c) (fun d => barPay (F := F) c d) := by
  rw [Finset.sdiff_empty, duties_bar]; exact bigSep_congr fun d _ => payload_bar KC VC c d

end Sched

/-! ## What is owed at launch, and the levels of the waits -/

/-- What remains owed once the barrier has been passed: an owner's three sends, the last to go out written first. -/
def sendsOwed (c : Dev nD) : CellTallies nD τ sig Unit :=
  if c = 0 then tallyAt (rc0 3) () N + tallyAt (rc0 2) () N + tallyAt (rc0 1) () N
  else if c = 1 then tallyAt (rc1 3) () N + tallyAt (rc1 2) () N + tallyAt (rc1 0) () N
  else 0

def O₀ (c : Dev nD) : CellTallies nD τ sig Unit :=
  sendsOwed c + tallyAt (barCell (c + 3)) () 1 + tallyAt (barCell (c + 2)) () 1 + tallyAt (barCell (c + 1)) () 1

def L (g : GSem nD τ sig) : Finset Unit := if g.1.2 = .tc then {()} else ∅
/-- Barriers at 1, receiving cells at 2, all else at 0. -/
def lv (g : GSem nD τ sig) (_ : Unit) : ℕ :=
  if g.2 = .reg bS then 1 else if g.2 = .dma rS0 ∨ g.2 = .dma rS1 then 2 else 0

theorem L_tc (c : Dev nD) (sm : SemLoc sig) : L ((c : Thread nD τ), sm) = {()} := if_pos rfl
theorem L_ne (g : GSem nD τ sig) (h : g.1.2 ≠ .tc) : L g = ∅ := if_neg h

theorem tallyAt_pos {g g' : GSem nD τ sig} {u : Unit} {n : ℕ} (h : 0 < tallyAt g () n g' u) : g' = g := by
  rw [tallyAt_apply] at h
  by_contra hne
  rw [if_neg (fun hh => hne hh.1)] at h
  exact absurd h (Nat.lt_irrefl 0)

/-- The sends still owed sit on receiving cells only. -/
theorem sendsOwed_pos (c : Dev nD) (g : GSem nD τ sig) (u : Unit) (h : 0 < sendsOwed c g u) :
    ∃ d : Dev nD, g = rc0 d ∨ g = rc1 d := by
  unfold sendsOwed at h
  split at h
  · rcases Nat.add_pos_iff_pos_or_pos.mp (show 0 < (_ + _ : ℕ) from h) with h | h
    · rcases Nat.add_pos_iff_pos_or_pos.mp (show 0 < (_ + _ : ℕ) from h) with h | h
      · exact ⟨_, .inl (tallyAt_pos h)⟩
      · exact ⟨_, .inl (tallyAt_pos h)⟩
    · exact ⟨_, .inl (tallyAt_pos h)⟩
  · split at h
    · rcases Nat.add_pos_iff_pos_or_pos.mp (show 0 < (_ + _ : ℕ) from h) with h | h
      · rcases Nat.add_pos_iff_pos_or_pos.mp (show 0 < (_ + _ : ℕ) from h) with h | h
        · exact ⟨_, .inr (tallyAt_pos h)⟩
        · exact ⟨_, .inr (tallyAt_pos h)⟩
      · exact ⟨_, .inr (tallyAt_pos h)⟩
    · exact absurd h (Nat.lt_irrefl 0)

theorem mayWait_bar (c : Dev nD) :
    (levAts L lv : sProp 𝕄) ⊢ MayWait (c : Thread nD τ) (.reg bS) () (sendsOwed c) :=
  MayOwe.of_cut (L := L) (lev := lv) 1 (fun p hp => by rw [Finset.mem_singleton.mp hp, L_tc]; exact Finset.mem_singleton_self _)
    (fun g u hg => by
      obtain ⟨d, rfl | rfl⟩ := sendsOwed_pos c g u hg <;> exact Finset.mem_singleton_self _)
    (fun p hp => by rw [Finset.mem_singleton.mp hp]; dsimp only [lv]; rw [if_pos rfl])
    (fun g u hg => by
      obtain ⟨d, rfl | rfl⟩ := sendsOwed_pos c g u hg <;> dsimp only [lv] <;> rw [if_neg (dma_ne_reg _ _)]
      · rw [if_pos (.inl rfl)]; decide
      · rw [if_pos (.inr rfl)]; decide)

end Cert.KernelIdeal.Ex
-- ==== Proof.Slots.lean ====
/- The two halves of the scratch memory: which elements they have, and what the loads, the stores and the landed copies
   see in them. -/
module

public import proofs.«01_k».proof.Proof.Proto
public import proofs.«01_k».proof.Proof.Gen.KernelIdeal.Skeleton
public import Idealize.ShloMosaic.Lib.Pipeline.Value

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## Elements -/

theorem mem_Z0 {i : S2x2x2x128x256.Idx} : i ∈ Z0 ↔ (i 0).val = 0 := by
  have h : Z0 = (Rect.unit (s := S2x2x2x128x256) ![0, 0, 0, 0, 0] S1x2x2x128x256.size inb_S2x2x2x128x256_S1x2x2x128x256_0_0_0_0_0).set :=
    (View.set_reshape _ _).trans (View.set_slice_whole _ _)
  rw [h, Rect.mem_set_unit]
  constructor
  · intro hi
    have := (hi 0).2
    change (i 0).val < 0 + 1 at this
    omega
  · intro hi a
    have := (i a).isLt
    fin_cases a
    · exact ⟨Nat.zero_le _, by change (i 0).val < 0 + 1; omega⟩
    all_goals exact ⟨Nat.zero_le _, by simpa using this⟩

theorem mem_Z1 {i : S2x2x2x128x256.Idx} : i ∈ Z1 ↔ (i 0).val = 1 := by
  have h : Z1 = (Rect.unit (s := S2x2x2x128x256) ![1, 0, 0, 0, 0] S1x2x2x128x256.size inb_S2x2x2x128x256_S1x2x2x128x256_1_0_0_0_0).set :=
    (View.set_reshape _ _).trans (View.set_slice_whole _ _)
  rw [h, Rect.mem_set_unit]
  have h0 := (i 0).isLt
  change (i 0).val < 2 at h0
  constructor
  · intro hi
    have := (hi 0).1
    change 1 ≤ (i 0).val at this
    omega
  · intro hi a
    have := (i a).isLt
    fin_cases a
    · exact ⟨by change 1 ≤ (i 0).val; omega, by change (i 0).val < 1 + 1; omega⟩
    all_goals exact ⟨Nat.zero_le _, by simpa using this⟩

theorem Z_disjoint : Disjoint Z0 Z1 :=
  Finset.disjoint_left.mpr fun i h0 h1 => by have := mem_Z0.mp h0; have := mem_Z1.mp h1; omega
theorem Z_union : Z0 ∪ Z1 = Finset.univ := by
  ext i
  have h0 := (i 0).isLt
  change (i 0).val < 2 at h0
  simp only [Finset.mem_union, mem_Z0, mem_Z1, Finset.mem_univ, iff_true]
  omega

/-- A rectangle of one owner's half lies in that half. -/
theorem access_sub0 {off size : Fin 5 → ℕ} {inb} (h0 : off 0 = 0) (h1 : size 0 = 1) :
    ((scr : Memref sig .tc .vmem S2x2x2x128x256 .bf16).access (Rect.unit (s := S2x2x2x128x256) off size inb)).set ⊆ Z0 := by
  intro i hi
  rw [View.set_slice_whole] at hi
  have := (Rect.mem_set_unit.mp hi) 0
  exact mem_Z0.mpr (by omega)
theorem access_sub1 {off size : Fin 5 → ℕ} {inb} (h0 : off 0 = 1) (h1 : size 0 = 1) :
    ((scr : Memref sig .tc .vmem S2x2x2x128x256 .bf16).access (Rect.unit (s := S2x2x2x128x256) off size inb)).set ⊆ Z1 := by
  intro i hi
  rw [View.set_slice_whole] at hi
  have := (Rect.mem_set_unit.mp hi) 0
  exact mem_Z1.mpr (by omega)

/-! ## Stores -/

/-- Writing a full row of the scratch (an owner's keys or its values) puts the block there and leaves the rest. -/
theorem write_row {off : Fin 5 → ℕ} {inb} (f : S2x2x2x128x256.Idx → Elt F .bf16) (w : S2x128x256.Idx → Elt F .bf16)
    (h : S2x128x256.ShapeCasts S1x1x2x128x256) (o j : ℕ) (h0 : off 0 = o) (h1 : off 1 = j) (h2 : off 2 = 0) (h3 : off 3 = 0) (h4 : off 4 = 0)
    (i : S2x2x2x128x256.Idx) :
    ((scr : Memref sig .tc .vmem S2x2x2x128x256 .bf16).access (Rect.unit (s := S2x2x2x128x256) off S1x1x2x128x256.size inb)).write (Elt F) f
      (shapeCast S1x1x2x128x256 w h) Finset.univ i = if (i 0).val = o ∧ (i 1).val = j then w (place i) else f i := by
  by_cases hi : (i 0).val = o ∧ (i 1).val = j
  · rw [if_pos hi]
    let x : S1x1x2x128x256.Idx := fun a => match a with
      | ⟨0, _⟩ => (0 : Fin 1) | ⟨1, _⟩ => (0 : Fin 1) | ⟨2, _⟩ => i 2 | ⟨3, _⟩ => i 3 | ⟨4, _⟩ => i 4
    have hx : ((scr : Memref sig .tc .vmem S2x2x2x128x256 .bf16).access (Rect.unit (s := S2x2x2x128x256) off S1x1x2x128x256.size inb)).emb x = i := by
      funext a
      apply Fin.ext
      show off a + 1 * (x a).val = (i a).val
      fin_cases a
      · show off 0 + 1 * 0 = (i 0).val; omega
      · show off 1 + 1 * 0 = (i 1).val; omega
      · show off 2 + 1 * (i 2).val = (i 2).val; omega
      · show off 3 + 1 * (i 3).val = (i 3).val; omega
      · show off 4 + 1 * (i 4).val = (i 4).val; omega
    rw [← hx, View.write_emb_of_mem _ _ (Finset.mem_univ x), cast_eq, hx]
    refine shapeCast_apply w h x (place i) ?_
    rw [Shape.rowMajor_val_five, Shape.rowMajor_val_three]
    change ((i 2).val * 128 + (i 3).val) * 256 + (i 4).val = (((0 * 1 + 0) * 2 + (i 2).val) * 128 + (i 3).val) * 256 + (i 4).val
    omega
  · rw [if_neg hi]
    refine View.write_of_not_mem _ _ _ (fun hm => hi ?_)
    rw [View.setOn_univ, View.set_slice_whole] at hm
    have a0 := (Rect.mem_set_unit.mp hm) 0
    have a1 := (Rect.mem_set_unit.mp hm) 1
    have e0 : S1x1x2x128x256.size 0 = 1 := rfl
    have e1 : S1x1x2x128x256.size 1 = 1 := rfl
    omega

/-- After its two stores an owner's half holds its keys and values. -/
theorem stored0 (f : S2x2x2x128x256.Idx → Elt F .bf16) (k v : Vec F S2x128x256 .bf16) :
    ∀ i ∈ Z0, ((scr : Memref sig .tc .vmem S2x2x2x128x256 .bf16).access (Rect.unit (s := S2x2x2x128x256) ![0, 1, 0, 0, 0] S1x1x2x128x256.size inb_S2x2x2x128x256_S1x1x2x128x256_0_1_0_0_0)).write (Elt F)
      (((scr : Memref sig .tc .vmem S2x2x2x128x256 .bf16).access (Rect.unit (s := S2x2x2x128x256) ![0, 0, 0, 0, 0] S1x1x2x128x256.size inb_S2x2x2x128x256_S1x1x2x128x256_0_0_0_0_0)).write (Elt F) f (k0_pay2 k) Finset.univ)
      (k0_pay3 v) Finset.univ i = kvBuf k v i := by
  intro i hi
  have hi0 := mem_Z0.mp hi
  have h1 := (i 1).isLt
  change (i 1).val < 2 at h1
  unfold k0_pay2 k0_pay3
  simp only [shapeCast_self]
  rw [write_row _ _ _ 0 1 rfl rfl rfl rfl rfl, write_row _ _ _ 0 0 rfl rfl rfl rfl rfl]
  unfold kvBuf
  by_cases h : (i 1).val = 0
  · rw [if_neg (by omega), if_pos ⟨hi0, h⟩, if_pos h]
  · rw [if_pos ⟨hi0, by omega⟩, if_neg h]

theorem stored1 (f : S2x2x2x128x256.Idx → Elt F .bf16) (k v : Vec F S2x128x256 .bf16) :
    ∀ i ∈ Z1, ((scr : Memref sig .tc .vmem S2x2x2x128x256 .bf16).access (Rect.unit (s := S2x2x2x128x256) ![1, 1, 0, 0, 0] S1x1x2x128x256.size inb_S2x2x2x128x256_S1x1x2x128x256_1_1_0_0_0)).write (Elt F)
      (((scr : Memref sig .tc .vmem S2x2x2x128x256 .bf16).access (Rect.unit (s := S2x2x2x128x256) ![1, 0, 0, 0, 0] S1x1x2x128x256.size inb_S2x2x2x128x256_S1x1x2x128x256_1_0_0_0_0)).write (Elt F) f (k0_pay4 k) Finset.univ)
      (k0_pay5 v) Finset.univ i = kvBuf k v i := by
  intro i hi
  have hi0 := mem_Z1.mp hi
  have h1 := (i 1).isLt
  change (i 1).val < 2 at h1
  unfold k0_pay4 k0_pay5
  simp only [shapeCast_self]
  rw [write_row _ _ _ 1 1 rfl rfl rfl rfl rfl, write_row _ _ _ 1 0 rfl rfl rfl rfl rfl]
  unfold kvBuf
  by_cases h : (i 1).val = 0
  · rw [if_neg (by omega), if_pos ⟨hi0, h⟩, if_pos h]
  · rw [if_pos ⟨hi0, by omega⟩, if_neg h]

/-! ## Loads -/

/-- One batch row of a block, in the shape the body loads it. -/
def batchRow (h : Fin 2) (w : Vec F S2x128x256 .bf16) : Vec F S1x1x1x128x256 .bf16 :=
  fun i => w fun a => match a with | ⟨0, _⟩ => h | ⟨1, _⟩ => i 3 | ⟨2, _⟩ => i 4

theorem read_row {off : Fin 5 → ℕ} {inb} (k v : Vec F S2x128x256 .bf16) (h : Fin 2) (h2 : off 2 = h.val) (h3 : off 3 = 0) (h4 : off 4 = 0) :
    ((scr : Memref sig .tc .vmem S2x2x2x128x256 .bf16).access (Rect.unit (s := S2x2x2x128x256) off S1x1x1x128x256.size inb)).read (Elt F) (kvBuf k v)
      = batchRow h (if off 1 = 0 then k else v) := by
  funext x
  rw [View.read_apply, cast_eq]
  have e1 : ((((scr : Memref sig .tc .vmem S2x2x2x128x256 .bf16).access (Rect.unit (s := S2x2x2x128x256) off S1x1x1x128x256.size inb)).emb x) 1).val = off 1 := by
    show off 1 + 1 * (x 1).val = off 1
    have : (x 1).val < 1 := (x 1).isLt
    omega
  have ep : place (((scr : Memref sig .tc .vmem S2x2x2x128x256 .bf16).access (Rect.unit (s := S2x2x2x128x256) off S1x1x1x128x256.size inb)).emb x)
      = fun a => match a with | ⟨0, _⟩ => h | ⟨1, _⟩ => x 3 | ⟨2, _⟩ => x 4 := by
    funext a
    apply Fin.ext
    fin_cases a
    · show off 2 + 1 * (x 2).val = h.val
      have : (x 2).val < 1 := (x 2).isLt
      omega
    · show off 3 + 1 * (x 3).val = (x 3).val; omega
    · show off 4 + 1 * (x 4).val = (x 4).val; omega
  unfold kvBuf batchRow
  rw [e1, ep]
  split <;> rfl

/-! ## Landed copies -/

theorem landed0 (f g : S2x2x2x128x256.Idx → Elt F .bf16) :
    ∀ i ∈ Z0, (S0M : Memref sig .tc .vmem S2x2x128x256 .bf16).view.write (Elt F) f
      ((S0M : Memref sig .tc .vmem S2x2x128x256 .bf16).view.read (Elt F) g) Finset.univ i = g i := by
  intro i hi
  rw [View.write_read_eq_piecewise, View.setOn_univ]
  exact Finset.piecewise_eq_of_mem _ _ _ hi
theorem landed1 (f g : S2x2x2x128x256.Idx → Elt F .bf16) :
    ∀ i ∈ Z1, (S1M : Memref sig .tc .vmem S2x2x128x256 .bf16).view.write (Elt F) f
      ((S1M : Memref sig .tc .vmem S2x2x128x256 .bf16).view.read (Elt F) g) Finset.univ i = g i := by
  intro i hi
  rw [View.write_read_eq_piecewise, View.setOn_univ]
  exact Finset.piecewise_eq_of_mem _ _ _ hi

/-- The whole scratch is its two halves. -/
theorem scr_split (c : Dev nD) (f : Buf (Elt F) (scrLoc c)) :
    (scrLoc c ↦{fullShare} f : sProp 𝕄) ⊢ iprop(slot0 c fullShare f ∗ slot1 c fullShare f) := by
  unfold slot0 slot1
  rw [show (scrLoc c ↦{fullShare} f : sProp 𝕄) = (scrLoc c ↦[Z0 ∪ Z1]{fullShare} f) from by rw [Z_union]]
  exact (pointsTo_union Z_disjoint).1

/-- And any two halves make it up again. -/
theorem scr_join (c : Dev nD) (f g : Buf (Elt F) (scrLoc c)) :
    iprop(slot0 c fullShare f ∗ slot1 c fullShare g) ⊢ iprop(∃ h : Buf (Elt F) (scrLoc c), scrLoc c ↦{fullShare} h : sProp 𝕄) := by
  unfold slot0 slot1
  refine (pointsTo_join Z_disjoint).trans ?_
  rw [Z_union]
  iintro H
  iexists _
  iexact H

end Cert.KernelIdeal.Ex
-- ==== Proof.Steps.lean ====
/- One operation of the body at a time: what a device needs for it, and what it has afterwards. -/
module

public import proofs.«01_k».proof.Proof.Slots

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- A program of the body on device `c`, run to a postcondition. -/
def run (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

theorem run_bind (c : Dev nD) {α β : Type} (p : Prog (TpuEff nD τ sig (Elt F) Λ₀ .tc) α)
    (k : α → Prog (TpuEff nD τ sig (Elt F) Λ₀ .tc) β) (Q : β → sProp 𝕄) :
    run c (p >>= k) Q = run c p fun a => run c (k a) Q := by unfold run; exact wp_bind ..

theorem run_pure (c : Dev nD) {α : Type} (a : α) (Q : α → sProp 𝕄) : Q a ⊢ run c (pure a) Q := by
  unfold run; rw [wp_pure]; iintro H; imodintro; iexact H

/-! ## Records -/

variable (KC VC : Dev nD → Vec F S2x128x256 .bf16)

/-- The six cells of a device. -/
def kcell (p : Dev nD × Fin 6) : GSem nD τ sig := match p.2 with
  | 0 => barCell p.1 | 1 => sc0 p.1 | 2 => sc1 p.1 | 3 => sc2 p.1 | 4 => rc0 p.1 | 5 => rc1 p.1

/-- Every cell of the exchange has its invariant, at one map of names; and every barrier has been opened. -/
def recs (K : GSem nD τ sig → ℕ) : sProp 𝕄 :=
  iprop((bigSep Finset.univ fun p : Dev nD × Fin 6 => cellInv ER (exRd KC VC) (K (kcell p)) (kcell p))
    ∗ bigSep Finset.univ fun c : Dev nD => reached ER (barCell c) 0)

instance recs_persistent (K : GSem nD τ sig → ℕ) : BI.Persistent (recs KC VC K) := by unfold recs; infer_instance

theorem recs_inv (K : GSem nD τ sig → ℕ) (c : Dev nD) (k : Fin 6) :
    recs KC VC K ⊢ cellInv ER (exRd KC VC) (K (kcell (c, k))) (kcell (c, k)) := by
  unfold recs
  iintro ⟨H, -⟩
  have h : (bigSep Finset.univ fun p : Dev nD × Fin 6 => (cellInv ER (exRd KC VC) (K (kcell p)) (kcell p) : sProp 𝕄))
    ⊢ cellInv ER (exRd KC VC) (K (kcell (c, k))) (kcell (c, k)) := bigSep_elim (Finset.mem_univ (c, k))
  iapply h
  iexact H

theorem recs_bar (K : GSem nD τ sig → ℕ) (c : Dev nD) : recs KC VC K ⊢ reached ER (barCell c) 0 := by
  unfold recs
  iintro ⟨-, H⟩
  have h : (bigSep Finset.univ fun c : Dev nD => (reached ER (barCell c) 0 : sProp 𝕄)) ⊢ reached ER (barCell c) 0 :=
    bigSep_elim (Finset.mem_univ c)
  iapply h
  iexact H

/-! ## Loads and stores of a whole window -/

theorem read_full {κ : Kind} {sp : CoreSpace} {s : Shape} {e : EltTy} (mr : Memref sig κ sp s e) {off : Fin s.rank → ℕ} (h0 : ∀ a, off a = 0) {inb}
    (g : mr.view.ty.Contents (Elt F)) : (mr.view.slice (Rect.unit off s.size inb)).read (Elt F) g = mr.view.read (Elt F) g := by
  funext x
  have hx : (Rect.unit off s.size inb).emb x = x := by
    funext a; apply Fin.ext
    show off a + 1 * (x a).val = (x a).val
    rw [h0]; omega
  rw [View.read_apply, View.read_apply]
  congr 1
  · show g (mr.view.emb ((Rect.unit off s.size inb).emb x)) = _
    rw [hx]

theorem load_owns (c : Dev nD) {sp : CoreSpace} {s : Shape} {e : EltTy} (mr : Memref sig .tc sp s e) (q : PosShare TreeShare)
    (X : s.Idx → Elt F e) (off : Fin s.rank → ℕ) (h0 : ∀ a, off a = 0) (inb) (hl)
    (Q : (s.Idx → Elt F e) → sProp 𝕄) :
    owns (c : Thread nD τ) mr q X
      ⊢ iprop((owns (c : Thread nD τ) mr q X -∗ Q X) -∗ run c (Prog.lift (.load mr (Rect.unit off s.size inb).toLoadRect hl)) Q) := by
  unfold run owns
  iintro ⟨%f, %hf, H⟩ Hk
  iapply (wp_load Variants.none (c : Thread nD τ) none Set.univ (S := mr.view.set) (q := q) (f := f)
    (by intro i hi; exact View.setOn_subset_set _ _ hi)) $$ H
  iintro H
  rw [wp_ret, View.readAt_rect, read_full mr h0, hf]
  imodintro
  iapply Hk
  iexists f
  isplitr; · ipureintro; exact hf
  iexact H

theorem access_full_sub {κ : Kind} {sp : CoreSpace} {s : Shape} {e : EltTy} (mr : Memref sig κ sp s e) {off : Fin s.rank → ℕ} {inb} :
    (mr.access (Rect.unit off s.size inb)).setOn Finset.univ ⊆ mr.view.set := by
  intro i hi; rw [View.setOn_univ, View.set_slice] at hi; exact View.setOn_subset_set _ _ hi

theorem store_owns (c : Dev nD) {sp : CoreSpace} {s : Shape} {e : EltTy} (mr : Memref sig .tc sp s e)
    (X : s.Idx → Elt F e) (w : s.Idx → Elt F e) (off : Fin s.rank → ℕ) (h0 : ∀ a, off a = 0) (inb)
    (hx : (mr.access (Rect.unit off s.size inb)).Stores Finset.univ)
    (Q : PUnit → sProp 𝕄) :
    owns (c : Thread nD τ) mr fullShare X
      ⊢ iprop((owns (c : Thread nD τ) mr fullShare w -∗ Q ⟨⟩) -∗ run c (Prog.lift (.store mr (Rect.unit off s.size inb) w Finset.univ hx (.inl rfl))) Q) := by
  unfold run owns
  iintro ⟨%f, %hf, H⟩ Hk
  have h : (mr.view.loc (c : Thread nD τ) ↦[mr.view.set]{fullShare} f : sProp 𝕄)
      ⊢ iprop(((mr.view.loc (c : Thread nD τ) ↦[mr.view.set]{fullShare} ((mr.view.slice (Rect.unit off s.size inb)).write (Elt F) f w Finset.univ))
          -∗ wp frame (wpE (defs₀ (F := F)) Variants.none (c : Thread nD τ) none) Set.univ (.ret ⟨⟩) Q)
        -∗ wp frame (wpE (defs₀ (F := F)) Variants.none (c : Thread nD τ) none) Set.univ
          (.op (.store mr (Rect.unit off s.size inb) w Finset.univ hx (.inl rfl)) .ret) Q) :=
    wp_store (m := mr) (r := Rect.unit off s.size inb) (w := w) (Mk := Finset.univ) (hx := hx) (S := mr.view.set) (f := f) (k := .ret)
      Variants.none (c : Thread nD τ) none Set.univ (access_full_sub mr)
  iapply h $$ H
  iintro H
  rw [wp_ret]
  imodintro
  iapply Hk
  iexists ((mr.view.slice (Rect.unit off s.size inb)).write (Elt F) f w Finset.univ)
  isplitr
  · ipureintro
    exact (read_full mr h0 (inb := inb) _).symm.trans (View.read_write_univ _ _)
  iexact H

/-! ## The barrier -/

theorem signal_step (K : GSem nD τ sig → ℕ) (c d d' : Dev nD) (hd : d' = d) (hne : c ≠ d) (O : CellTallies nD τ sig Unit) (W : Waits sig Unit)
    (Q : PUnit → sProp 𝕄) :
    iprop(recs KC VC K ∗ owes (c : Thread nD τ) (O + tallyAt (barCell d) () 1) W ∗ dutyTok ER (barCell d) 0 c ∗ barPay d c)
      ⊢ iprop((owes (c : Thread nD τ) O W -∗ Q ⟨⟩) -∗ run c (semSignalWord d' bS 1#32) Q) := by
  subst hd
  unfold run semSignalWord
  rw [show (1#32).toInt = ((1 : ℕ) : ℤ) from by decide]
  iintro ⟨#HR, HO, Ht, HP⟩ Hk
  iapply (Rounds.wp_signal Variants.none ER (exRd KC VC) (c : Thread nD τ) none (dst := (d' : Thread nD τ)) (sem := bS) (r := 0) (d := c) (κ := K (barCell d'))
      (by rw [duties_bar]; exact Finset.mem_erase.mpr ⟨hne, Finset.mem_univ _⟩) (amount_bar KC VC d' c) () O rfl) $$ [HO Ht HP]
  · isplitr; · iapply (recs_inv KC VC K d' 0); iexact HR
    isplitl [HO]; · iexact HO
    isplitl [Ht]; · iexact Ht
    isplitl [HP]; · rw [payload_bar]; iexact HP
    iapply (recs_bar KC VC K d'); iexact HR
  iintro HO
  rw [wp_ret]; imodintro
  iapply Hk; iexact HO

theorem wait_bar_step (K : GSem nD τ sig → ℕ) (c : Dev nD) (W : Waits sig Unit) (Q : PUnit → sProp 𝕄) :
    iprop(recs KC VC K ∗ cred (tallyAt (barCell c) () 3) ∗ owes (c : Thread nD τ) (sendsOwed c) W ∗ levAts L lv ∗ atPos ER (barCell c) 0 ∅ 0)
      ⊢ iprop(((∃ W', owes (c : Thread nD τ) (sendsOwed c) W') -∗ atPos ER (barCell c) 1 ∅ 0 -∗ bigSep (Finset.univ.erase c) (fun d => barPay (F := F) c d) -∗ Q ⟨⟩)
        -∗ run c (semWaitWord bS 3#32) Q) := by
  unfold run semWaitWord
  rw [show (3#32).toInt = ((3 : ℕ) : ℤ) from by decide]
  iintro ⟨#HR, Hc, HO, #Hlev, Hat⟩ Hk
  iapply (Rounds.wp_wait_rest_token Variants.none ER (exRd KC VC) (c : Thread nD τ) none (κ := K (barCell c))
      (wpE_semWait_eq Variants.none (c : Thread nD τ) none Set.univ) (Set.mem_univ _) () (O := sendsOwed c) (W := W) (R := 0) (m := 0) (T := ∅)
      ((Nat.zero_add 3).trans (expect_bar KC VC c).symm)) $$ [Hc HO Hat]
  · isplitr; · iapply (recs_inv KC VC K c 0); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar KC VC c)) $$ Hpay
  rw [wp_ret]; imodintro
  iapply Hk $$ [HO] Hat Hp
  iexists _; iexact HO

/-! ## Waits on copies -/

theorem wait_dma_step (K : GSem nD τ sig → ℕ) (c : Dev nD) (k : Fin 6) (s : DmaSem sig) (hk : kcell (c, k) = ((c : Thread nD τ), .dma s)) (d : Fin 4)
    (hdut : (exRd (F := F) KC VC).duties ((c : Thread nD τ), .dma s) 0 = {d}) (P : sProp 𝕄)
    (hpay : (exRd (F := F) KC VC).payload ((c : Thread nD τ), .dma s) 0 d = P)
    (mr : Memref sig .tc .vmem S2x2x128x256 .bf16) (hmr : mr.view.dmaCredit = N) (h₁) (h₂) (Q : PUnit → sProp 𝕄) :
    iprop(recs KC VC K ∗ cred (tallyAt ((c : Thread nD τ), .dma s) () N) ∗ (∃ W, owes (c : Thread nD τ) (0 : CellTallies nD τ sig Unit) W)
        ∗ atPos ER ((c : Thread nD τ), .dma s) 0 ∅ 0)
      ⊢ iprop(((∃ W, owes (c : Thread nD τ) (0 : CellTallies nD τ sig Unit) W) -∗ atPos ER ((c : Thread nD τ), .dma s) 1 ∅ 0 -∗ P -∗ Q ⟨⟩)
        -∗ run c (Prog.lift (.waitDma2 s mr mr h₁ h₂)) Q) := by
  unfold run
  iintro ⟨#HR, Hc, ⟨%W, HO⟩, Hat⟩ Hk
  iapply (Rounds.wp_wait_rest_token Variants.none ER (exRd KC VC) (c : Thread nD τ) none (κ := K ((c : Thread nD τ), .dma s))
      (wpE_waitDma2_eq Variants.none (c : Thread nD τ) none Set.univ) (Set.mem_univ _) () (O := 0) (W := W) (R := 0) (m := 0) (T := ∅)
      ((Nat.zero_add _).trans (hmr.trans (expect_dma KC VC c s d hdut).symm))) $$ [Hc HO Hat]
  · isplitr
    · rw [← hk]; iapply (recs_inv KC VC K c k); iexact HR
    isplitl [Hc]; · rw [hmr]; iexact Hc
    isplitl [HO]; · iexact HO
    isplitr; · rw [MayWait_zero]; iempintro
    iexact Hat
  iintro ⟨HO, Hat, -, Hpay⟩
  ihave Hp := (Entails.of_eq (by rw [Finset.sdiff_empty, hdut, bigSep_singleton, hpay] :
    bigSep ((exRd (F := F) KC VC).duties ((c : Thread nD τ), .dma s) 0 \ ∅) (fun d => (exRd (F := F) KC VC).payload ((c : Thread nD τ), .dma s) 0 d) = P)) $$ Hpay
  rw [wp_ret]; imodintro
  iapply Hk $$ [HO] Hat Hp
  iexists _; iexact HO

/-! ## Sends -/

theorem send0_step (K : GSem nD τ sig → ℕ) (d d' : Dev nD) (hd : d' = d) (hne : d ≠ 0) (k : Fin 6) (s : DmaSem sig) (n : ℕ)
    (hk : kcell (0, k) = (((0 : Dev nD) : Thread nD τ), .dma s))
    (hdut : (exRd (F := F) KC VC).duties (((0 : Dev nD) : Thread nD τ), .dma s) 0 = {0})
    (hpay : (exRd (F := F) KC VC).payload (((0 : Dev nD) : Thread nD τ), .dma s) 0 0 = sendPay KC VC 0 n)
    (O : CellTallies nD τ sig Unit) (W : Waits sig Unit) (h₁) (h₂) (h₃) (Q : PUnit → sProp 𝕄) :
    iprop(recs KC VC K ∗ slot0 0 (Transfers.shareTokN fullShare n) (kv KC VC 0) ∗ barPay (F := F) 0 d
        ∗ owes ((0 : Dev nD) : Thread nD τ) (O + tallyAt (rc0 d) () N) W
        ∗ dutyTok ER (((0 : Dev nD) : Thread nD τ), .dma s) 0 0 ∗ reached ER (((0 : Dev nD) : Thread nD τ), .dma s) 0
        ∗ dutyTok ER (rc0 d) 0 0)
      ⊢ iprop((cred (tallyAt (((0 : Dev nD) : Thread nD τ), .dma s) () N) -∗ owes ((0 : Dev nD) : Thread nD τ) O W -∗ Q ⟨⟩)
        -∗ run 0 (Prog.lift (.enqueueDma S0M (.remote (Dev.tc d') S0M (.dma s)) (.dma rS0) h₁ h₂ h₃)) Q) := by
  subst hd
  unfold run barPay slot0
  rw [if_pos rfl]
  iintro ⟨#HR, Hs, ⟨⟨%fn, Hd⟩, #HrV⟩, HO, HtS, #HrS, HtV⟩ Hk
  iapply (Rounds.wp_send_pointsTo Variants.none ER (exRd KC VC) ((0 : Dev nD) : Thread nD τ) none (c' := (d' : Thread nD τ)) (src := S0M) (dst := S0M)
      (sS := .dma s) (sem := .dma rS0) (q := Transfers.shareTokN fullShare n) (fs := kv KC VC 0)
      (κ₁ := K (((0 : Dev nD) : Thread nD τ), .dma s)) (κ₂ := K (rc0 d'))
      (r₁ := 0) (r₂ := 0) (d₁ := 0) (d₂ := 0) (fd := fn)
      (by rw [hdut]; exact Finset.mem_singleton_self _) (by rw [duties_r0, if_neg hne]; exact Finset.mem_singleton_self _)
      () () N rfl (amount_dma KC VC 0 s 0) (amount_dma KC VC d' rS0 0) O rfl (W := W)
      (by rw [hpay]; unfold sendPay slot0; rw [if_pos rfl]; exact BI.Entails.refl _)
      (by rw [payload_r0]; unfold recvPay0 slot0
          exact Entails.of_eq (pointsTo_congr (landed0 fn (kv KC VC 0))))) $$ [Hs Hd HO HtS HtV]
  · isplitr; · rw [← hk]; iapply (recs_inv KC VC K 0 k); iexact HR
    isplitr; · iapply (recs_inv KC VC K d' 4); iexact HR
    isplitl [Hs]; · iexact Hs
    isplitl [Hd]; · iexact Hd
    isplitl [HO]; · iexact HO
    isplitl [HtS]; · iexact HtS
    isplitr; · iexact HrS
    isplitl [HtV]; · iexact HtV
    iexact HrV
  iintro ⟨Hc, HO⟩
  rw [wp_ret]; imodintro
  iapply Hk $$ Hc HO

theorem send1_step (K : GSem nD τ sig → ℕ) (d d' : Dev nD) (hd : d' = d) (hne : d ≠ 1) (k : Fin 6) (s : DmaSem sig) (n : ℕ)
    (hk : kcell (1, k) = (((1 : Dev nD) : Thread nD τ), .dma s))
    (hdut : (exRd (F := F) KC VC).duties (((1 : Dev nD) : Thread nD τ), .dma s) 0 = {1})
    (hpay : (exRd (F := F) KC VC).payload (((1 : Dev nD) : Thread nD τ), .dma s) 0 1 = sendPay KC VC 1 n)
    (O : CellTallies nD τ sig Unit) (W : Waits sig Unit) (h₁) (h₂) (h₃) (Q : PUnit → sProp 𝕄) :
    iprop(recs KC VC K ∗ slot1 1 (Transfers.shareTokN fullShare n) (kv KC VC 1) ∗ barPay (F := F) 1 d
        ∗ owes ((1 : Dev nD) : Thread nD τ) (O + tallyAt (rc1 d) () N) W
        ∗ dutyTok ER (((1 : Dev nD) : Thread nD τ), .dma s) 0 1 ∗ reached ER (((1 : Dev nD) : Thread nD τ), .dma s) 0
        ∗ dutyTok ER (rc1 d) 0 1)
      ⊢ iprop((cred (tallyAt (((1 : Dev nD) : Thread nD τ), .dma s) () N) -∗ owes ((1 : Dev nD) : Thread nD τ) O W -∗ Q ⟨⟩)
        -∗ run 1 (Prog.lift (.enqueueDma S1M (.remote (Dev.tc d') S1M (.dma s)) (.dma rS1) h₁ h₂ h₃)) Q) := by
  subst hd
  unfold run barPay slot1
  rw [if_neg (by decide), if_pos rfl]
  iintro ⟨#HR, Hs, ⟨⟨%fn, Hd⟩, #HrV⟩, HO, HtS, #HrS, HtV⟩ Hk
  iapply (Rounds.wp_send_pointsTo Variants.none ER (exRd KC VC) ((1 : Dev nD) : Thread nD τ) none (c' := (d' : Thread nD τ)) (src := S1M) (dst := S1M)
      (sS := .dma s) (sem := .dma rS1) (q := Transfers.shareTokN fullShare n) (fs := kv KC VC 1)
      (κ₁ := K (((1 : Dev nD) : Thread nD τ), .dma s)) (κ₂ := K (rc1 d'))
      (r₁ := 0) (r₂ := 0) (d₁ := 1) (d₂ := 1) (fd := fn)
      (by rw [hdut]; exact Finset.mem_singleton_self _) (by rw [duties_r1, if_neg hne]; exact Finset.mem_singleton_self _)
      () () N rfl (amount_dma KC VC 1 s 1) (amount_dma KC VC d' rS1 1) O rfl (W := W)
      (by rw [hpay]; unfold sendPay slot1; rw [if_neg (by decide), if_pos rfl]; exact BI.Entails.refl _)
      (by rw [payload_r1]; unfold recvPay1 slot1
          exact Entails.of_eq (pointsTo_congr (landed1 fn (kv KC VC 1))))) $$ [Hs Hd HO HtS HtV]
  · isplitr; · rw [← hk]; iapply (recs_inv KC VC K 1 k); iexact HR
    isplitr; · iapply (recs_inv KC VC K d' 5); iexact HR
    isplitl [Hs]; · iexact Hs
    isplitl [Hd]; · iexact Hd
    isplitl [HO]; · iexact HO
    isplitl [HtS]; · iexact HtS
    isplitr; · iexact HrS
    isplitl [HtV]; · iexact HtV
    iexact HrV
  iintro ⟨Hc, HO⟩
  rw [wp_ret]; imodintro
  iapply Hk $$ Hc HO

/-! ## Loads from the scratch -/

theorem load_slot (c : Dev nD) (Z : Finset S2x2x2x128x256.Idx) (q : PosShare TreeShare) (k v : Vec F S2x128x256 .bf16) (h : Fin 2) (off : Fin 5 → ℕ)
    (h2 : off 2 = h.val) (h3 : off 3 = 0) (h4 : off 4 = 0) (inb) (hl)
    (hZ : ((scr : Memref sig .tc .vmem S2x2x2x128x256 .bf16).access (Rect.unit (s := S2x2x2x128x256) off S1x1x1x128x256.size inb)).set ⊆ Z)
    (Q : Vec F S1x1x1x128x256 .bf16 → sProp 𝕄) :
    (scrLoc c ↦[Z]{q} kvBuf k v : sProp 𝕄)
      ⊢ iprop(((scrLoc c ↦[Z]{q} kvBuf k v) -∗ Q (batchRow h (if off 1 = 0 then k else v)))
        -∗ run c (Prog.lift (.load scr (Rect.unit (s := S2x2x2x128x256) off S1x1x1x128x256.size inb).toLoadRect hl)) Q) := by
  unfold run
  have hw : (scrLoc c ↦[Z]{q} kvBuf k v : sProp 𝕄)
      ⊢ iprop(((scrLoc c ↦[Z]{q} kvBuf k v) -∗ wp frame (wpE (defs₀ (F := F)) Variants.none (c : Thread nD τ) none) Set.univ (.ret
            (((scr : Memref sig .tc .vmem S2x2x2x128x256 .bf16).access (Rect.unit (s := S2x2x2x128x256) off S1x1x1x128x256.size inb)).read (Elt F) (kvBuf k v))) Q)
        -∗ wp frame (wpE (defs₀ (F := F)) Variants.none (c : Thread nD τ) none) Set.univ
          (.op (.load scr (Rect.unit (s := S2x2x2x128x256) off S1x1x1x128x256.size inb).toLoadRect hl) .ret) Q) :=
    wp_load_rect (m := scr) (r := Rect.unit (s := S2x2x2x128x256) off S1x1x1x128x256.size inb) (k := .ret) Variants.none (c : Thread nD τ) none Set.univ hZ
  iintro H Hk
  iapply hw $$ H
  iintro H
  rw [wp_ret, read_row k v h h2 h3 h4]; imodintro
  iapply Hk; iexact H

end Cert.KernelIdeal.Ex
-- ==== Proof.Enter.lean ====
/- The first part of the body: the barrier, and the sends of the two owners. -/
module

public import proofs.«01_k».proof.Proof.Steps

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (KC VC : Dev nD → Vec F S2x128x256 .bf16)

/-! ## A half of the scratch in four shares -/

theorem shares_split {ℓ : Loc nD τ sig} {Z : Finset (Idx ℓ)} (f : Buf (Elt F) ℓ) :
    (ℓ ↦[Z]{fullShare} f : sProp 𝕄) ⊢ iprop((ℓ ↦[Z]{Transfers.shareDrop fullShare 3} f) ∗ (ℓ ↦[Z]{Transfers.shareTokN fullShare 0} f)
      ∗ (ℓ ↦[Z]{Transfers.shareTokN fullShare 1} f) ∗ (ℓ ↦[Z]{Transfers.shareTokN fullShare 2} f)) := by
  refine (Transfers.pointsTo_toks_split fullShare 3).trans ?_
  rw [show (Finset.univ : Finset (Fin 3)) = {0, 1, 2} from by decide, bigSep_insert (by decide), bigSep_insert (by decide), bigSep_singleton]
  exact BI.Entails.refl _

theorem shares_join {ℓ : Loc nD τ sig} {Z : Finset (Idx ℓ)} (f : Buf (Elt F) ℓ) :
    iprop((ℓ ↦[Z]{Transfers.shareDrop fullShare 3} f) ∗ (ℓ ↦[Z]{Transfers.shareTokN fullShare 0} f)
      ∗ (ℓ ↦[Z]{Transfers.shareTokN fullShare 1} f) ∗ (ℓ ↦[Z]{Transfers.shareTokN fullShare 2} f)) ⊢ (ℓ ↦[Z]{fullShare} f : sProp 𝕄) := by
  refine BI.Entails.trans ?_ (Transfers.pointsTo_toks_join fullShare 3)
  rw [show (Finset.univ : Finset (Fin 3)) = {0, 1, 2} from by decide, bigSep_insert (by decide), bigSep_insert (by decide), bigSep_singleton]
  exact BI.Entails.refl _

/-! ## Loading and storing keys or values in the scratch -/

theorem peek_slot (c : Dev nD) (Z : Finset S2x2x2x128x256.Idx) (q : PosShare TreeShare) (f : S2x2x2x128x256.Idx → Elt F .bf16) (off size : Fin 5 → ℕ) (inb) (hl)
    (hZ : ((scr : Memref sig .tc .vmem S2x2x2x128x256 .bf16).access (Rect.unit (s := S2x2x2x128x256) off size inb)).set ⊆ Z)
    (Q : _ → sProp 𝕄) :
    (scrLoc c ↦[Z]{q} f : sProp 𝕄)
      ⊢ iprop(((scrLoc c ↦[Z]{q} f) -∗ Q (((scr : Memref sig .tc .vmem S2x2x2x128x256 .bf16).access (Rect.unit (s := S2x2x2x128x256) off size inb)).read (Elt F) f))
        -∗ run c (Prog.lift (.load scr (Rect.unit (s := S2x2x2x128x256) off size inb).toLoadRect hl)) Q) := by
  unfold run
  have hw : (scrLoc c ↦[Z]{q} f : sProp 𝕄)
      ⊢ iprop(((scrLoc c ↦[Z]{q} f) -∗ wp frame (wpE (defs₀ (F := F)) Variants.none (c : Thread nD τ) none) Set.univ (.ret
            (((scr : Memref sig .tc .vmem S2x2x2x128x256 .bf16).access (Rect.unit (s := S2x2x2x128x256) off size inb)).read (Elt F) f)) Q)
        -∗ wp frame (wpE (defs₀ (F := F)) Variants.none (c : Thread nD τ) none) Set.univ
          (.op (.load scr (Rect.unit (s := S2x2x2x128x256) off size inb).toLoadRect hl) .ret) Q) :=
    wp_load_rect (m := scr) (r := Rect.unit (s := S2x2x2x128x256) off size inb) (k := .ret) Variants.none (c : Thread nD τ) none Set.univ hZ
  iintro H Hk
  iapply hw $$ H
  iintro H
  rw [wp_ret]; imodintro
  iapply Hk; iexact H

theorem put_slot (c : Dev nD) (Z : Finset S2x2x2x128x256.Idx) (f : S2x2x2x128x256.Idx → Elt F .bf16) (off size : Fin 5 → ℕ) (inb)
    (w : (⟨5, size⟩ : Shape).Idx → Elt F .bf16)
    (hx : ((scr : Memref sig .tc .vmem S2x2x2x128x256 .bf16).access (Rect.unit (s := S2x2x2x128x256) off size inb)).Stores Finset.univ)
    (hZ : ((scr : Memref sig .tc .vmem S2x2x2x128x256 .bf16).access (Rect.unit (s := S2x2x2x128x256) off size inb)).set ⊆ Z)
    (Q : PUnit → sProp 𝕄) :
    (scrLoc c ↦[Z]{fullShare} f : sProp 𝕄)
      ⊢ iprop(((scrLoc c ↦[Z]{fullShare} (((scr : Memref sig .tc .vmem S2x2x2x128x256 .bf16).access (Rect.unit (s := S2x2x2x128x256) off size inb)).write (Elt F) f w Finset.univ)) -∗ Q ⟨⟩)
        -∗ run c (Prog.lift (.store scr (Rect.unit (s := S2x2x2x128x256) off size inb) w Finset.univ hx (.inl rfl))) Q) := by
  unfold run
  have hw : (scrLoc c ↦[Z]{fullShare} f : sProp 𝕄)
      ⊢ iprop(((scrLoc c ↦[Z]{fullShare} (((scr : Memref sig .tc .vmem S2x2x2x128x256 .bf16).access (Rect.unit (s := S2x2x2x128x256) off size inb)).write (Elt F) f w Finset.univ))
          -∗ wp frame (wpE (defs₀ (F := F)) Variants.none (c : Thread nD τ) none) Set.univ (.ret ⟨⟩) Q)
        -∗ wp frame (wpE (defs₀ (F := F)) Variants.none (c : Thread nD τ) none) Set.univ
          (.op (.store scr (Rect.unit (s := S2x2x2x128x256) off size inb) w Finset.univ hx (.inl rfl)) .ret) Q) :=
    wp_store (m := scr) (r := Rect.unit (s := S2x2x2x128x256) off size inb) (w := w) (Mk := Finset.univ) (hx := hx) (S := Z) (f := f) (k := .ret)
      Variants.none (c : Thread nD τ) none Set.univ (by rw [View.setOn_univ]; exact hZ)
  iintro H Hk
  iapply hw $$ H
  iintro H
  rw [wp_ret]; imodintro
  iapply Hk; iexact H

/-! ## The barrier -/

/-- What the other devices get from device `c` as it enters, each with the token it pays with. -/
def entry (c : Dev nD) : sProp 𝕄 :=
  iprop((dutyTok ER (barCell (c + 1)) 0 c ∗ barPay (F := F) (c + 1) c) ∗ (dutyTok ER (barCell (c + 2)) 0 c ∗ barPay (F := F) (c + 2) c)
    ∗ (dutyTok ER (barCell (c + 3)) 0 c ∗ barPay (F := F) (c + 3) c))

theorem ne_shift : ∀ c : Dev nD, c ≠ c + 1 ∧ c ≠ c + 2 ∧ c ≠ c + 3 := by decide

theorem enter (K : GSem nD τ sig → ℕ) (c d₁ d₂ d₃ : Dev nD) (h₁ : d₁ = c + 1) (h₂ : d₂ = c + 2) (h₃ : d₃ = c + 3) (W : Waits sig Unit) {α : Type}
    (k : PUnit → Prog (TpuEff nD τ sig (Elt F) Λ₀ .tc) α) (Q : α → sProp 𝕄) :
    iprop(recs KC VC K ∗ owes (c : Thread nD τ) (O₀ c) W ∗ entry (F := F) c ∗ cred (tallyAt (barCell c) () 3) ∗ levAts L lv ∗ atPos ER (barCell c) 0 ∅ 0)
      ⊢ iprop(((∃ W', owes (c : Thread nD τ) (sendsOwed c) W') -∗ atPos ER (barCell c) 1 ∅ 0 -∗ bigSep (Finset.univ.erase c) (fun d => barPay (F := F) c d)
          -∗ run c (k ⟨⟩) Q)
        -∗ run c (semSignalWord d₁ bS 1#32 >>= fun _ => semSignalWord d₂ bS 1#32 >>= fun _ => semSignalWord d₃ bS 1#32 >>= fun _ =>
            semWaitWord bS 3#32 >>= k) Q) := by
  unfold entry O₀
  iintro ⟨#HR, HO, ⟨⟨Ht1, HP1⟩, ⟨Ht2, HP2⟩, ⟨Ht3, HP3⟩⟩, Hc, #Hlev, Hat⟩ Hk
  rw [run_bind]
  iapply (signal_step KC VC K c (c + 1) d₁ h₁ (ne_shift c).1 _ W _) $$ [HO Ht1 HP1]
  · isplitr; · iexact HR
    isplitl [HO]; · iexact HO
    isplitl [Ht1]; · iexact Ht1
    iexact HP1
  iintro HO
  rw [run_bind]
  iapply (signal_step KC VC K c (c + 2) d₂ h₂ (ne_shift c).2.1 _ W _) $$ [HO Ht2 HP2]
  · isplitr; · iexact HR
    isplitl [HO]; · iexact HO
    isplitl [Ht2]; · iexact Ht2
    iexact HP2
  iintro HO
  rw [run_bind]
  iapply (signal_step KC VC K c (c + 3) d₃ h₃ (ne_shift c).2.2 _ W _) $$ [HO Ht3 HP3]
  · isplitr; · iexact HR
    isplitl [HO]; · iexact HO
    isplitl [Ht3]; · iexact Ht3
    iexact HP3
  iintro HO
  rw [run_bind]
  iapply (wait_bar_step KC VC K c W _) $$ [Hc HO Hat]
  · isplitr; · iexact HR
    isplitl [Hc]; · iexact Hc
    isplitl [HO]; · iexact HO
    isplitr; · iexact Hlev
    iexact Hat
  iexact Hk

/-! ## An owner's stores and first send -/

variable (a0 : Memref sig .tc .vmem S256x512 .bf16) (h0 : a0.IsWhole) (a1 : Memref sig .tc .vmem S512x256 .bf16) (h1 : a1.IsWhole)
  (a2 : Memref sig .tc .vmem S2x128x256 .bf16) (h2 : a2.IsWhole) (a3 : Memref sig .tc .vmem S2x128x256 .bf16) (h3 : a3.IsWhole)
  (a4 : Memref sig .tc .vmem S256x512 .bf16) (h4 : a4.IsWhole) (a5 : Memref sig .tc .vmem S256x512 .f32) (h5 : a5.IsWhole)
  (h6 : (scr : Memref sig .tc .vmem S2x2x2x128x256 .bf16).IsWhole)

theorem zero3 : ∀ a : Fin 3, (![0, 0, 0] : Fin 3 → ℕ) a = 0 := by decide
theorem zero2 : ∀ a : Fin 2, (![0, 0] : Fin 2 → ℕ) a = 0 := by decide

theorem part1_run (K : GSem nD τ sig → ℕ) (hc : k0_cond1 (0 : Dev nD) = 1#1) (f : S2x2x2x128x256.Idx → Elt F .bf16) (O : CellTallies nD τ sig Unit)
    (Q : _ → sProp 𝕄) :
    iprop(recs KC VC K ∗ owns ((0 : Dev nD) : Thread nD τ) a2 fullShare (KC 0) ∗ owns ((0 : Dev nD) : Thread nD τ) a3 fullShare (VC 0)
        ∗ slot0 0 fullShare f ∗ barPay (F := F) 0 1 ∗ (∃ W, owes ((0 : Dev nD) : Thread nD τ) (O + tallyAt (rc0 1) () N) W)
        ∗ dutyTok ER (sc0 0) 0 0 ∗ reached ER (sc0 0) 0 ∗ dutyTok ER (rc0 1) 0 0)
      ⊢ iprop((owns ((0 : Dev nD) : Thread nD τ) a2 fullShare (KC 0) -∗ owns ((0 : Dev nD) : Thread nD τ) a3 fullShare (VC 0)
          -∗ slot0 0 (Transfers.shareDrop fullShare 3) (kv KC VC 0) -∗ slot0 0 (Transfers.shareTokN fullShare 1) (kv KC VC 0)
          -∗ slot0 0 (Transfers.shareTokN fullShare 2) (kv KC VC 0) -∗ cred (tallyAt (sc0 0) () N)
          -∗ (∃ W, owes ((0 : Dev nD) : Thread nD τ) O W) -∗ Q ⟨2#32, 1#32⟩)
        -∗ run 0 (k0_part1 a0 h0 a1 h1 a2 h2 a3 h3 a4 h4 a5 h5 scr h6 cc0_scratch1 cc0_scratch2 0 hc) Q) := by
  rw [k0_part1_eq_skeleton]; unfold k0_part1_skel slot0
  iintro ⟨#HR, H2, H3, Hs, HP, ⟨%W, HO⟩, HtS, #HrS, HtV⟩ Hk
  rw [run_bind]
  iapply (load_owns 0 a2 fullShare (KC 0) ![0, 0, 0] zero3 _ _ _) $$ H2
  iintro H2
  rw [run_bind]
  iapply (peek_slot 0 Z0 fullShare f ![0, 0, 0, 0, 0] S1x1x2x128x256.size _ _ (access_sub0 rfl rfl) _) $$ Hs
  iintro Hs
  rw [run_bind]
  iapply (put_slot 0 Z0 f ![0, 0, 0, 0, 0] S1x1x2x128x256.size _ _ _ (access_sub0 rfl rfl) _) $$ Hs
  iintro Hs
  rw [run_bind]
  iapply (load_owns 0 a3 fullShare (VC 0) ![0, 0, 0] zero3 _ _ _) $$ H3
  iintro H3
  rw [run_bind]
  iapply (peek_slot 0 Z0 fullShare _ ![0, 1, 0, 0, 0] S1x1x2x128x256.size _ _ (access_sub0 rfl rfl) _) $$ Hs
  iintro Hs
  rw [run_bind]
  iapply (put_slot 0 Z0 _ ![0, 1, 0, 0, 0] S1x1x2x128x256.size _ _ _ (access_sub0 rfl rfl) _) $$ Hs
  iintro Hs
  ihave Hs := (Entails.of_eq (pointsTo_congr (ℓ := scrLoc 0) (q := fullShare) (stored0 f (KC 0) (VC 0)))) $$ Hs
  ihave Hs := (shares_split _) $$ Hs
  icases Hs with ⟨Hd, Hs0, Hs1, Hs2⟩
  dsimp only
  rw [run_bind]
  iapply (send0_step KC VC K 1 _ (Fin.ext k0_dev4_eq) (by decide) 1 sS0 0 rfl (by rw [duties_s0]; rfl) (payload_s0 KC VC 0 0) O W _ _ _ _) $$ [Hs0 HP HO HtS HtV]
  · isplitr; · iexact HR
    isplitl [Hs0]; · unfold slot0; iexact Hs0
    isplitl [HP]; · iexact HP
    isplitl [HO]; · iexact HO
    isplitl [HtS]; · iexact HtS
    isplitr; · iexact HrS
    iexact HtV
  iintro Hc HO
  iapply run_pure
  iapply Hk $$ H2 H3 Hd Hs1 Hs2 Hc [HO]
  iexists _; iexact HO

theorem part2_run (K : GSem nD τ sig → ℕ) (hc : k0_cond2 (1 : Dev nD) = 1#1) (f : S2x2x2x128x256.Idx → Elt F .bf16) (O : CellTallies nD τ sig Unit)
    (Q : _ → sProp 𝕄) :
    iprop(recs KC VC K ∗ owns ((1 : Dev nD) : Thread nD τ) a2 fullShare (KC 1) ∗ owns ((1 : Dev nD) : Thread nD τ) a3 fullShare (VC 1)
        ∗ slot1 1 fullShare f ∗ barPay (F := F) 1 0 ∗ (∃ W, owes ((1 : Dev nD) : Thread nD τ) (O + tallyAt (rc1 0) () N) W)
        ∗ dutyTok ER (sc0 1) 0 1 ∗ reached ER (sc0 1) 0 ∗ dutyTok ER (rc1 0) 0 1)
      ⊢ iprop((owns ((1 : Dev nD) : Thread nD τ) a2 fullShare (KC 1) -∗ owns ((1 : Dev nD) : Thread nD τ) a3 fullShare (VC 1)
          -∗ slot1 1 (Transfers.shareDrop fullShare 3) (kv KC VC 1) -∗ slot1 1 (Transfers.shareTokN fullShare 1) (kv KC VC 1)
          -∗ slot1 1 (Transfers.shareTokN fullShare 2) (kv KC VC 1) -∗ cred (tallyAt (sc0 1) () N)
          -∗ (∃ W, owes ((1 : Dev nD) : Thread nD τ) O W) -∗ Q ⟨2#32, 1#32⟩)
        -∗ run 1 (k0_part2 a0 h0 a1 h1 a2 h2 a3 h3 a4 h4 a5 h5 scr h6 cc0_scratch1 cc0_scratch2 1 hc) Q) := by
  rw [k0_part2_eq_skeleton]; unfold k0_part2_skel slot1
  iintro ⟨#HR, H2, H3, Hs, HP, ⟨%W, HO⟩, HtS, #HrS, HtV⟩ Hk
  rw [run_bind]
  iapply (load_owns 1 a2 fullShare (KC 1) ![0, 0, 0] zero3 _ _ _) $$ H2
  iintro H2
  rw [run_bind]
  iapply (peek_slot 1 Z1 fullShare f ![1, 0, 0, 0, 0] S1x1x2x128x256.size _ _ (access_sub1 rfl rfl) _) $$ Hs
  iintro Hs
  rw [run_bind]
  iapply (put_slot 1 Z1 f ![1, 0, 0, 0, 0] S1x1x2x128x256.size _ _ _ (access_sub1 rfl rfl) _) $$ Hs
  iintro Hs
  rw [run_bind]
  iapply (load_owns 1 a3 fullShare (VC 1) ![0, 0, 0] zero3 _ _ _) $$ H3
  iintro H3
  rw [run_bind]
  iapply (peek_slot 1 Z1 fullShare _ ![1, 1, 0, 0, 0] S1x1x2x128x256.size _ _ (access_sub1 rfl rfl) _) $$ Hs
  iintro Hs
  rw [run_bind]
  iapply (put_slot 1 Z1 _ ![1, 1, 0, 0, 0] S1x1x2x128x256.size _ _ _ (access_sub1 rfl rfl) _) $$ Hs
  iintro Hs
  ihave Hs := (Entails.of_eq (pointsTo_congr (ℓ := scrLoc 1) (q := fullShare) (stored1 f (KC 1) (VC 1)))) $$ Hs
  ihave Hs := (shares_split _) $$ Hs
  icases Hs with ⟨Hd, Hs0, Hs1, Hs2⟩
  dsimp only
  rw [run_bind]
  iapply (send1_step KC VC K 0 _ (Fin.ext k0_dev7_eq) (by decide) 1 sS0 0 rfl (by rw [duties_s0]; rfl) (payload_s0 KC VC 1 0) O W _ _ _ _) $$ [Hs0 HP HO HtS HtV]
  · isplitr; · iexact HR
    isplitl [Hs0]; · unfold slot1; iexact Hs0
    isplitl [HP]; · iexact HP
    isplitl [HO]; · iexact HO
    isplitl [HtS]; · iexact HtS
    isplitr; · iexact HrS
    iexact HtV
  iintro Hc HO
  iapply run_pure
  iapply Hk $$ H2 H3 Hd Hs1 Hs2 Hc [HO]
  iexists _; iexact HO

/-! ## The first part whole -/

theorem run_deviceId (c : Dev nD) (Q : Dev nD → sProp 𝕄) :
    run c (Prog.lift .deviceId) Q = iprop(|={Set.univ}=> Q c) := by
  unfold run; exact wp_deviceId ..

theorem erase0 (Φ : Dev nD → sProp 𝕄) : bigSep (Finset.univ.erase (0 : Dev nD)) Φ = iprop(Φ 1 ∗ Φ 2 ∗ Φ 3) := by
  rw [show (Finset.univ.erase (0 : Dev nD)) = ({1, 2, 3} : Finset (Fin 4)) from by decide, bigSep_insert (by decide), bigSep_insert (by decide), bigSep_singleton]
  rfl
theorem erase1 (Φ : Dev nD → sProp 𝕄) : bigSep (Finset.univ.erase (1 : Dev nD)) Φ = iprop(Φ 0 ∗ Φ 2 ∗ Φ 3) := by
  rw [show (Finset.univ.erase (1 : Dev nD)) = ({0, 2, 3} : Finset (Fin 4)) from by decide, bigSep_insert (by decide), bigSep_insert (by decide), bigSep_singleton]
  rfl

/-- The word of a device, as the body computes it. -/
abbrev devWord (c : Dev nD) : BitVec 32 := Scalar.remsi (Scalar.divsi (Dev.word c) 1#32) 4#32

theorem part5_run0 (K : GSem nD τ sig → ℕ) (X0 : Vec F S256x512 .bf16) (X1 : Vec F S512x256 .bf16) (f : S2x2x2x128x256.Idx → Elt F .bf16) (W : Waits sig Unit)
    (Q : _ → sProp 𝕄) :
    iprop((recs KC VC K ∗ owes ((0 : Dev nD) : Thread nD τ) (O₀ 0) W ∗ entry (F := F) 0 ∗ cred (tallyAt (barCell 0) () 3) ∗ levAts L lv ∗ atPos ER (barCell 0) 0 ∅ 0)
        ∗ (owns ((0 : Dev nD) : Thread nD τ) a0 fullShare X0 ∗ owns ((0 : Dev nD) : Thread nD τ) a1 fullShare X1
          ∗ owns ((0 : Dev nD) : Thread nD τ) a2 fullShare (KC 0) ∗ owns ((0 : Dev nD) : Thread nD τ) a3 fullShare (VC 0))
        ∗ slot0 0 fullShare f ∗ (dutyTok ER (sc0 0) 0 0 ∗ dutyTok ER (sc1 0) 0 0 ∗ dutyTok ER (sc2 0) 0 0)
        ∗ (reached ER (sc0 0) 0 ∗ reached ER (sc1 0) 0 ∗ reached ER (sc2 0) 0)
        ∗ (dutyTok ER (rc0 1) 0 0 ∗ dutyTok ER (rc0 2) 0 0 ∗ dutyTok ER (rc0 3) 0 0))
      ⊢ iprop(((owns ((0 : Dev nD) : Thread nD τ) a0 fullShare X0 ∗ owns ((0 : Dev nD) : Thread nD τ) a1 fullShare X1
          ∗ owns ((0 : Dev nD) : Thread nD τ) a2 fullShare (KC 0) ∗ owns ((0 : Dev nD) : Thread nD τ) a3 fullShare (VC 0))
          -∗ slot0 0 (Transfers.shareDrop fullShare 3) (kv KC VC 0)
          -∗ (cred (tallyAt (sc0 0) () N) ∗ cred (tallyAt (sc1 0) () N) ∗ cred (tallyAt (sc2 0) () N))
          -∗ atPos ER (barCell 0) 1 ∅ 0
          -∗ (∃ W, owes ((0 : Dev nD) : Thread nD τ) (0 : CellTallies nD τ sig Unit) W) -∗ Q ⟨devWord 0, k0_pay6 X1, k0_pay7 X0⟩)
        -∗ run 0 (k0_part5 a0 h0 a1 h1 a2 h2 a3 h3 a4 h4 a5 h5 scr h6 cc0_scratch1 cc0_scratch2) Q) := by
  rw [k0_part5_eq_skeleton]; unfold k0_part5_skel
  iintro ⟨Hen, ⟨H0, H1, H2, H3⟩, Hs, ⟨HtS0, HtS1, HtS2⟩, ⟨#HrS0, #HrS1, #HrS2⟩, ⟨HtV1, HtV2, HtV3⟩⟩ Hk
  icases Hen with ⟨#HR, Hen⟩
  rw [run_bind, run_deviceId]
  imodintro
  dsimp only
  iapply (enter KC VC K 0 _ _ _ (by decide) (by decide) (by decide) W _ _) $$ [Hen]
  · isplitr; · iexact HR
    iexact Hen
  iintro HO Hat HP
  ihave HP := (Entails.of_eq (erase0 (F := F) _)) $$ HP
  icases HP with ⟨HP1, HP2, HP3⟩
  rw [dif_pos (by decide), run_bind]
  iapply (part1_run KC VC a0 h0 a1 h1 a2 h2 a3 h3 a4 h4 a5 h5 h6 K _ f (tallyAt (rc0 3) () N + tallyAt (rc0 2) () N) _) $$ [H2 H3 Hs HP1 HO HtS0 HtV1]
  · isplitr; · iexact HR
    isplitl [H2]; · iexact H2
    isplitl [H3]; · iexact H3
    isplitl [Hs]; · iexact Hs
    isplitl [HP1]; · iexact HP1
    isplitl [HO]; · iexact HO
    isplitl [HtS0]; · iexact HtS0
    isplitr; · iexact HrS0
    iexact HtV1
  iintro H2 H3 Hd Hs1 Hs2 Hc0 ⟨%W1, HO⟩
  rw [run_bind]
  iapply (send0_step KC VC K 2 _ (Fin.ext k0_dev5_eq) (by decide) 2 sS1 1 rfl (by rw [duties_s1]; rfl) (payload_s1 KC VC 0 0)
    (tallyAt (rc0 3) () N) W1 _ _ _ _) $$ [Hs1 HP2 HO HtS1 HtV2]
  · isplitr; · iexact HR
    isplitl [Hs1]; · iexact Hs1
    isplitl [HP2]; · iexact HP2
    isplitl [HO]; · iexact HO
    isplitl [HtS1]; · iexact HtS1
    isplitr; · iexact HrS1
    iexact HtV2
  iintro Hc1 HO
  rw [run_bind]
  iapply (send0_step KC VC K 3 _ (Fin.ext k0_dev6_eq) (by decide) 3 sS2 2 rfl (by rw [duties_s2]; rfl) (payload_s2 KC VC 0 0)
    0 W1 _ _ _ _) $$ [Hs2 HP3 HO HtS2 HtV3]
  · isplitr; · iexact HR
    isplitl [Hs2]; · iexact Hs2
    isplitl [HP3]; · iexact HP3
    isplitl [HO]; · rw [zero_add]; iexact HO
    isplitl [HtS2]; · iexact HtS2
    isplitr; · iexact HrS2
    iexact HtV3
  iintro Hc2 HO
  rw [dif_neg (by decide), run_bind]
  iapply (load_owns 0 a1 fullShare X1 ![0, 0] zero2 _ _ _) $$ H1
  iintro H1
  rw [run_bind]
  iapply (load_owns 0 a0 fullShare X0 ![0, 0] zero2 _ _ _) $$ H0
  iintro H0
  iapply run_pure
  iapply Hk $$ [H0 H1 H2 H3] Hd [Hc0 Hc1 Hc2] Hat [HO]
  · isplitl [H0]; · iexact H0
    isplitl [H1]; · iexact H1
    isplitl [H2]; · iexact H2
    iexact H3
  · isplitl [Hc0]; · iexact Hc0
    isplitl [Hc1]; · iexact Hc1
    iexact Hc2
  · iexists _; iexact HO

theorem part5_run1 (K : GSem nD τ sig → ℕ) (X0 : Vec F S256x512 .bf16) (X1 : Vec F S512x256 .bf16) (f : S2x2x2x128x256.Idx → Elt F .bf16) (W : Waits sig Unit)
    (Q : _ → sProp 𝕄) :
    iprop((recs KC VC K ∗ owes ((1 : Dev nD) : Thread nD τ) (O₀ 1) W ∗ entry (F := F) 1 ∗ cred (tallyAt (barCell 1) () 3) ∗ levAts L lv ∗ atPos ER (barCell 1) 0 ∅ 0)
        ∗ (owns ((1 : Dev nD) : Thread nD τ) a0 fullShare X0 ∗ owns ((1 : Dev nD) : Thread nD τ) a1 fullShare X1
          ∗ owns ((1 : Dev nD) : Thread nD τ) a2 fullShare (KC 1) ∗ owns ((1 : Dev nD) : Thread nD τ) a3 fullShare (VC 1))
        ∗ slot1 1 fullShare f ∗ (dutyTok ER (sc0 1) 0 1 ∗ dutyTok ER (sc1 1) 0 1 ∗ dutyTok ER (sc2 1) 0 1)
        ∗ (reached ER (sc0 1) 0 ∗ reached ER (sc1 1) 0 ∗ reached ER (sc2 1) 0)
        ∗ (dutyTok ER (rc1 0) 0 1 ∗ dutyTok ER (rc1 2) 0 1 ∗ dutyTok ER (rc1 3) 0 1))
      ⊢ iprop(((owns ((1 : Dev nD) : Thread nD τ) a0 fullShare X0 ∗ owns ((1 : Dev nD) : Thread nD τ) a1 fullShare X1
          ∗ owns ((1 : Dev nD) : Thread nD τ) a2 fullShare (KC 1) ∗ owns ((1 : Dev nD) : Thread nD τ) a3 fullShare (VC 1))
          -∗ slot1 1 (Transfers.shareDrop fullShare 3) (kv KC VC 1)
          -∗ (cred (tallyAt (sc0 1) () N) ∗ cred (tallyAt (sc1 1) () N) ∗ cred (tallyAt (sc2 1) () N))
          -∗ atPos ER (barCell 1) 1 ∅ 0
          -∗ (∃ W, owes ((1 : Dev nD) : Thread nD τ) (0 : CellTallies nD τ sig Unit) W) -∗ Q ⟨devWord 1, k0_pay6 X1, k0_pay7 X0⟩)
        -∗ run 1 (k0_part5 a0 h0 a1 h1 a2 h2 a3 h3 a4 h4 a5 h5 scr h6 cc0_scratch1 cc0_scratch2) Q) := by
  rw [k0_part5_eq_skeleton]; unfold k0_part5_skel
  iintro ⟨Hen, ⟨H0, H1, H2, H3⟩, Hs, ⟨HtS0, HtS1, HtS2⟩, ⟨#HrS0, #HrS1, #HrS2⟩, ⟨HtV1, HtV2, HtV3⟩⟩ Hk
  icases Hen with ⟨#HR, Hen⟩
  rw [run_bind, run_deviceId]
  imodintro
  dsimp only
  iapply (enter KC VC K 1 _ _ _ (by decide) (by decide) (by decide) W _ _) $$ [Hen]
  · isplitr; · iexact HR
    iexact Hen
  iintro HO Hat HP
  ihave HP := (Entails.of_eq (erase1 (F := F) _)) $$ HP
  icases HP with ⟨HP1, HP2, HP3⟩
  rw [dif_neg (by decide), dif_pos (by decide), run_bind]
  iapply (part2_run KC VC a0 h0 a1 h1 a2 h2 a3 h3 a4 h4 a5 h5 h6 K _ f (tallyAt (rc1 3) () N + tallyAt (rc1 2) () N) _) $$ [H2 H3 Hs HP1 HO HtS0 HtV1]
  · isplitr; · iexact HR
    isplitl [H2]; · iexact H2
    isplitl [H3]; · iexact H3
    isplitl [Hs]; · iexact Hs
    isplitl [HP1]; · iexact HP1
    isplitl [HO]; · iexact HO
    isplitl [HtS0]; · iexact HtS0
    isplitr; · iexact HrS0
    iexact HtV1
  iintro H2 H3 Hd Hs1 Hs2 Hc0 ⟨%W1, HO⟩
  rw [run_bind]
  iapply (send1_step KC VC K 2 _ (Fin.ext k0_dev8_eq) (by decide) 2 sS1 1 rfl (by rw [duties_s1]; rfl) (payload_s1 KC VC 1 0)
    (tallyAt (rc1 3) () N) W1 _ _ _ _) $$ [Hs1 HP2 HO HtS1 HtV2]
  · isplitr; · iexact HR
    isplitl [Hs1]; · iexact Hs1
    isplitl [HP2]; · iexact HP2
    isplitl [HO]; · iexact HO
    isplitl [HtS1]; · iexact HtS1
    isplitr; · iexact HrS1
    iexact HtV2
  iintro Hc1 HO
  rw [run_bind]
  iapply (send1_step KC VC K 3 _ (Fin.ext k0_dev9_eq) (by decide) 3 sS2 2 rfl (by rw [duties_s2]; rfl) (payload_s2 KC VC 1 0)
    0 W1 _ _ _ _) $$ [Hs2 HP3 HO HtS2 HtV3]
  · isplitr; · iexact HR
    isplitl [Hs2]; · iexact Hs2
    isplitl [HP3]; · iexact HP3
    isplitl [HO]; · rw [zero_add]; iexact HO
    isplitl [HtS2]; · iexact HtS2
    isplitr; · iexact HrS2
    iexact HtV3
  iintro Hc2 HO
  rw [run_bind]
  iapply (load_owns 1 a1 fullShare X1 ![0, 0] zero2 _ _ _) $$ H1
  iintro H1
  rw [run_bind]
  iapply (load_owns 1 a0 fullShare X0 ![0, 0] zero2 _ _ _) $$ H0
  iintro H0
  iapply run_pure
  iapply Hk $$ [H0 H1 H2 H3] Hd [Hc0 Hc1 Hc2] Hat [HO]
  · isplitl [H0]; · iexact H0
    isplitl [H1]; · iexact H1
    isplitl [H2]; · iexact H2
    iexact H3
  · isplitl [Hc0]; · iexact Hc0
    isplitl [Hc1]; · iexact Hc1
    iexact Hc2
  · iexists _; iexact HO

theorem cond1_ne : ∀ c : Dev nD, c ≠ 0 → ¬ k0_cond1 c = 1#1 := by decide
theorem cond2_ne : ∀ c : Dev nD, c ≠ 1 → ¬ k0_cond2 c = 1#1 := by decide

theorem part5_run2 (K : GSem nD τ sig → ℕ) (c : Dev nD) (hc0 : c ≠ 0) (hc1 : c ≠ 1) (X0 : Vec F S256x512 .bf16) (X1 : Vec F S512x256 .bf16)
    (W : Waits sig Unit) (Q : _ → sProp 𝕄) :
    iprop((recs KC VC K ∗ owes (c : Thread nD τ) (O₀ c) W ∗ entry (F := F) c ∗ cred (tallyAt (barCell c) () 3) ∗ levAts L lv ∗ atPos ER (barCell c) 0 ∅ 0)
        ∗ (owns (c : Thread nD τ) a0 fullShare X0 ∗ owns (c : Thread nD τ) a1 fullShare X1))
      ⊢ iprop(((owns (c : Thread nD τ) a0 fullShare X0 ∗ owns (c : Thread nD τ) a1 fullShare X1)
          -∗ atPos ER (barCell c) 1 ∅ 0
          -∗ (∃ W, owes (c : Thread nD τ) (0 : CellTallies nD τ sig Unit) W) -∗ Q ⟨devWord c, k0_pay6 X1, k0_pay7 X0⟩)
        -∗ run c (k0_part5 a0 h0 a1 h1 a2 h2 a3 h3 a4 h4 a5 h5 scr h6 cc0_scratch1 cc0_scratch2) Q) := by
  rw [k0_part5_eq_skeleton]; unfold k0_part5_skel
  iintro ⟨Hen, ⟨H0, H1⟩⟩ Hk
  rw [run_bind, run_deviceId]
  imodintro
  dsimp only
  iapply (enter KC VC K c _ _ _ (Fin.ext (k0_dev1_eq c)) (Fin.ext (k0_dev2_eq c)) (Fin.ext (k0_dev3_eq c)) W _ _) $$ [Hen]
  · iexact Hen
  iintro HO Hat -
  rw [dif_neg (cond1_ne c hc0), dif_neg (cond2_ne c hc1)]
  rw [run_bind]
  iapply (load_owns c a1 fullShare X1 ![0, 0] zero2 _ _ _) $$ H1
  iintro H1
  rw [run_bind]
  iapply (load_owns c a0 fullShare X0 ![0, 0] zero2 _ _ _) $$ H0
  iintro H0
  iapply run_pure
  iapply Hk $$ [H0 H1] Hat [HO]
  · isplitl [H0]; · iexact H0
    iexact H1
  · unfold sendsOwed; rw [if_neg hc0, if_neg hc1]; iexact HO

end Cert.KernelIdeal.Ex
-- ==== Proof.Reads.lean ====
/- The rest of the body: the arrivals, the reads of the scratch, the result, and the owners' last waits. -/
module

public import proofs.«01_k».proof.Proof.Enter

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (KC VC : Dev nD → Vec F S2x128x256 .bf16)

/-! ## The result -/

/-- What the body writes, from the windows' contents and the two blocks of keys and values. -/
def bodyOut (X0 : Vec F S256x512 .bf16) (X1 : Vec F S512x256 .bf16) (X4 : Vec F S256x512 .bf16) (k₀ v₀ k₁ v₁ : Vec F S2x128x256 .bf16) :
    Vec F S256x512 .f32 :=
  let v23 := k0_pay6 X1
  let v25 := k0_pay7 X0
  let v39 := batchRow 0 k₀
  let v41 := batchRow 0 v₀
  let v79 := batchRow 1 k₀
  let v81 := batchRow 1 v₀
  let v124 := batchRow 0 k₁
  let v126 := batchRow 0 v₁
  let v185 := batchRow 1 k₁
  let v187 := batchRow 1 v₁
  let v29 := k0_pay8 v23 v25
  let v35 : FVec F S128x128 .f32 := k0_pay9
  let v40 := k0_pay10 v39
  let v42 := k0_pay11 v41
  let v48 := k0_pay13 v23 v25 v39
  let v51 := k0_pay14 v23 v25 v39 v41
  let v57 := k0_pay16 v23 v25 v39
  let v60 := k0_pay17 v23 v25 v39 v41
  let v61 := k0_pay18 v23 v25
  let v62 := k0_pay19 v39
  let v66 := k0_pay21 v61 v62
  let v69 := k0_pay22 v42 v61 v62
  let v75 := k0_pay24 v29 v40
  let v78 := k0_pay25 v29 v40 v42
  let v80 := k0_pay26 v79
  let v82 := k0_pay27 v81
  let v88 := k0_pay29 v29 v79
  let v91 := k0_pay30 v29 v79 v81
  let v97 := k0_pay32 v29 v79
  let v100 := k0_pay33 v29 v79 v81
  let v106 := k0_pay35 v29 v80
  let v109 := k0_pay36 v29 v80 v82
  let v115 := k0_pay38 v29 v80
  let v118 := k0_pay39 v29 v80 v82
  let v123 := k0_pay40 X4
  let v125 := k0_pay41 v124
  let v127 := k0_pay42 v126
  let v135 := k0_pay44 v29 v35 v48 v124
  let v136 := k0_pay45 v29 v35 v124
  let v137 := k0_pay46 v126
  let v184 := k0_pay47 v29 v35 v51 v57 v60 v66 v69 v75 v78 v125 v127 v135 v136 v137
  let v186 := k0_pay48 v185
  let v188 := k0_pay49 v187
  let v202 := k0_pay50 v29 v35 v88 v91 v185 v187
  let v216 := k0_pay51 v29 v35 v97 v100 v185 v187
  let v224 := k0_pay53 v29 v35 v106 v185
  let v228 := k0_pay54 v29 v35 v109 v185 v187
  k0_pay1 v29 v35 v115 v118 v123 v184 v186 v188 v202 v216 v224 v228

/-! ## Reading a batch's keys or values -/

theorem load_key (c : Dev nD) (Z : Finset S2x2x2x128x256.Idx) (q : PosShare TreeShare) (k v : Vec F S2x128x256 .bf16) (h : Fin 2) (off : Fin 5 → ℕ)
    (h1 : off 1 = 0) (h2 : off 2 = h.val) (h3 : off 3 = 0) (h4 : off 4 = 0) (inb) (hl)
    (hZ : ((scr : Memref sig .tc .vmem S2x2x2x128x256 .bf16).access (Rect.unit (s := S2x2x2x128x256) off S1x1x1x128x256.size inb)).set ⊆ Z)
    (Q : Vec F S1x1x1x128x256 .bf16 → sProp 𝕄) :
    (scrLoc c ↦[Z]{q} kvBuf k v : sProp 𝕄)
      ⊢ iprop(((scrLoc c ↦[Z]{q} kvBuf k v) -∗ Q (batchRow h k))
        -∗ run c (Prog.lift (.load scr (Rect.unit (s := S2x2x2x128x256) off S1x1x1x128x256.size inb).toLoadRect hl)) Q) := by
  have := load_slot c Z q k v h off h2 h3 h4 inb hl hZ Q
  rwa [if_pos h1] at this

theorem load_val (c : Dev nD) (Z : Finset S2x2x2x128x256.Idx) (q : PosShare TreeShare) (k v : Vec F S2x128x256 .bf16) (h : Fin 2) (off : Fin 5 → ℕ)
    (h1 : off 1 = 1) (h2 : off 2 = h.val) (h3 : off 3 = 0) (h4 : off 4 = 0) (inb) (hl)
    (hZ : ((scr : Memref sig .tc .vmem S2x2x2x128x256 .bf16).access (Rect.unit (s := S2x2x2x128x256) off S1x1x1x128x256.size inb)).set ⊆ Z)
    (Q : Vec F S1x1x1x128x256 .bf16 → sProp 𝕄) :
    (scrLoc c ↦[Z]{q} kvBuf k v : sProp 𝕄)
      ⊢ iprop(((scrLoc c ↦[Z]{q} kvBuf k v) -∗ Q (batchRow h v))
        -∗ run c (Prog.lift (.load scr (Rect.unit (s := S2x2x2x128x256) off S1x1x1x128x256.size inb).toLoadRect hl)) Q) := by
  have := load_slot c Z q k v h off h2 h3 h4 inb hl hZ Q
  rwa [if_neg (by rw [h1]; decide)] at this

/-! ## The parts that read -/

variable (a0 : Memref sig .tc .vmem S256x512 .bf16) (h0 : a0.IsWhole) (a1 : Memref sig .tc .vmem S512x256 .bf16) (h1 : a1.IsWhole)
  (a2 : Memref sig .tc .vmem S2x128x256 .bf16) (h2 : a2.IsWhole) (a3 : Memref sig .tc .vmem S2x128x256 .bf16) (h3 : a3.IsWhole)
  (a4 : Memref sig .tc .vmem S256x512 .bf16) (h4 : a4.IsWhole) (a5 : Memref sig .tc .vmem S256x512 .f32) (h5 : a5.IsWhole)
  (h6 : (scr : Memref sig .tc .vmem S2x2x2x128x256 .bf16).IsWhole)

/-- Device `d`'s block is still to arrive at device `c`, which owes nothing. -/
def due0 (c : Dev nD) : sProp 𝕄 :=
  iprop(cred (tallyAt (rc0 c) () N) ∗ (∃ W, owes (c : Thread nD τ) (0 : CellTallies nD τ sig Unit) W) ∗ atPos ER (rc0 c) 0 ∅ 0)
def due1 (c : Dev nD) : sProp 𝕄 :=
  iprop(cred (tallyAt (rc1 c) () N) ∗ (∃ W, owes (c : Thread nD τ) (0 : CellTallies nD τ sig Unit) W) ∗ atPos ER (rc1 c) 0 ∅ 0)

theorem part6_stay (c : Dev nD) (q : PosShare TreeShare) (k v : Vec F S2x128x256 .bf16) (v2 : BitVec 32)
    (hv : ¬ Scalar.cmpi .ne (Scalar.extui (Scalar.cmpi .ne v2 0#32) : BitVec 32) 0#32 = 1#1) (v23 : FVec F S512x256 .bf16) (v25 : FVec F S256x512 .bf16)
    (Q : _ → sProp 𝕄) :
    slot0 c q (kvBuf k v)
      ⊢ iprop((slot0 c q (kvBuf k v) -∗ Q ⟨k0_pay8 v23 v25, k0_pay9 (F := F), k0_pay10 (batchRow 0 k), k0_pay11 (batchRow 0 v), k0_pay13 v23 v25 (batchRow 0 k),
            k0_pay14 v23 v25 (batchRow 0 k) (batchRow 0 v), k0_pay16 v23 v25 (batchRow 0 k), k0_pay17 v23 v25 (batchRow 0 k) (batchRow 0 v), k0_pay18 v23 v25,
            k0_pay19 (batchRow 0 k)⟩)
        -∗ run c (k0_part6 a0 h0 a1 h1 a2 h2 a3 h3 a4 h4 a5 h5 scr h6 cc0_scratch1 cc0_scratch2 v2 v23 v25) Q) := by
  rw [k0_part6_eq_skeleton]; unfold k0_part6_skel slot0
  iintro Hs Hk
  dsimp only
  rw [dif_neg hv, run_bind]
  iapply (load_key c Z0 q k v 0 ![0, 0, 0, 0, 0] rfl rfl rfl rfl _ _ (access_sub0 rfl rfl) _) $$ Hs
  iintro Hs
  rw [run_bind]
  iapply (load_val c Z0 q k v 0 ![0, 1, 0, 0, 0] rfl rfl rfl rfl _ _ (access_sub0 rfl rfl) _) $$ Hs
  iintro Hs
  iapply run_pure
  iapply Hk; iexact Hs

theorem part6_wait (K : GSem nD τ sig → ℕ) (c : Dev nD) (hc : c ≠ 0) (v2 : BitVec 32)
    (hv : Scalar.cmpi .ne (Scalar.extui (Scalar.cmpi .ne v2 0#32) : BitVec 32) 0#32 = 1#1) (v23 : FVec F S512x256 .bf16) (v25 : FVec F S256x512 .bf16)
    (Q : _ → sProp 𝕄) :
    iprop(recs KC VC K ∗ due0 (F := F) c)
      ⊢ iprop((slot0 c fullShare (kvBuf (KC 0) (VC 0)) -∗ (∃ W, owes (c : Thread nD τ) (0 : CellTallies nD τ sig Unit) W) -∗ atPos ER (rc0 c) 1 ∅ 0
            -∗ Q ⟨k0_pay8 v23 v25, k0_pay9 (F := F), k0_pay10 (batchRow 0 (KC 0)), k0_pay11 (batchRow 0 (VC 0)), k0_pay13 v23 v25 (batchRow 0 (KC 0)),
            k0_pay14 v23 v25 (batchRow 0 (KC 0)) (batchRow 0 (VC 0)), k0_pay16 v23 v25 (batchRow 0 (KC 0)), k0_pay17 v23 v25 (batchRow 0 (KC 0)) (batchRow 0 (VC 0)),
            k0_pay18 v23 v25, k0_pay19 (batchRow 0 (KC 0))⟩)
        -∗ run c (k0_part6 a0 h0 a1 h1 a2 h2 a3 h3 a4 h4 a5 h5 scr h6 cc0_scratch1 cc0_scratch2 v2 v23 v25) Q) := by
  rw [k0_part6_eq_skeleton]; unfold k0_part6_skel slot0 due0
  iintro ⟨#HR, Hc, HO, Hat⟩ Hk
  dsimp only
  rw [dif_pos hv, run_bind]
  iapply (wait_dma_step KC VC K c 4 rS0 rfl 0 (by rw [duties_r0, if_neg hc]) (recvPay0 KC VC c) (payload_r0 KC VC c 0) S0M rfl _ _ _) $$ [Hc HO Hat]
  · isplitr; · iexact HR
    isplitl [Hc]; · iexact Hc
    isplitl [HO]; · iexact HO
    iexact Hat
  unfold recvPay0 slot0
  iintro HO Hat Hs
  rw [run_bind]
  iapply (load_key c Z0 fullShare (KC 0) (VC 0) 0 ![0, 0, 0, 0, 0] rfl rfl rfl rfl _ _ (access_sub0 rfl rfl) _) $$ Hs
  iintro Hs
  rw [run_bind]
  iapply (load_val c Z0 fullShare (KC 0) (VC 0) 0 ![0, 1, 0, 0, 0] rfl rfl rfl rfl _ _ (access_sub0 rfl rfl) _) $$ Hs
  iintro Hs
  iapply run_pure
  iapply Hk $$ Hs HO Hat

theorem part7_run (c : Dev nD) (q : PosShare TreeShare) (k v : Vec F S2x128x256 .bf16) (v29 : FVec F S256x256 .bf16) (v40 v42 : FVec F S128x256 .bf16)
    (v61 v62 : FVec F S128x64 .bf16) (Q : _ → sProp 𝕄) :
    slot0 c q (kvBuf k v)
      ⊢ iprop((slot0 c q (kvBuf k v) -∗ Q ⟨k0_pay21 v61 v62, k0_pay22 v42 v61 v62, k0_pay24 v29 v40, k0_pay25 v29 v40 v42, k0_pay26 (batchRow 1 k), k0_pay27 (batchRow 1 v),
            k0_pay29 v29 (batchRow 1 k), k0_pay30 v29 (batchRow 1 k) (batchRow 1 v), k0_pay32 v29 (batchRow 1 k), k0_pay33 v29 (batchRow 1 k) (batchRow 1 v)⟩)
        -∗ run c (k0_part7 a0 h0 a1 h1 a2 h2 a3 h3 a4 h4 a5 h5 scr h6 cc0_scratch1 cc0_scratch2 v29 v40 v42 v61 v62) Q) := by
  rw [k0_part7_eq_skeleton]; unfold k0_part7_skel slot0
  iintro Hs Hk
  rw [run_bind]
  iapply (load_key c Z0 q k v 1 ![0, 0, 1, 0, 0] rfl rfl rfl rfl _ _ (access_sub0 rfl rfl) _) $$ Hs
  iintro Hs
  rw [run_bind]
  iapply (load_val c Z0 q k v 1 ![0, 1, 1, 0, 0] rfl rfl rfl rfl _ _ (access_sub0 rfl rfl) _) $$ Hs
  iintro Hs
  iapply run_pure
  iapply Hk; iexact Hs

theorem part8_stay (c : Dev nD) (q : PosShare TreeShare) (k v : Vec F S2x128x256 .bf16) (v2 : BitVec 32)
    (hv : ¬ Scalar.cmpi .ne (Scalar.extui (Scalar.cmpi .ne v2 1#32) : BitVec 32) 0#32 = 1#1) (X4 : Vec F S256x512 .bf16)
    (v29 : FVec F S256x256 .bf16) (v35 : FVec F S128x128 .f32) (v48 : FVec F S128x1 .f32) (v80 v82 : FVec F S128x256 .bf16) (Q : _ → sProp 𝕄) :
    iprop(slot1 c q (kvBuf k v) ∗ owns (c : Thread nD τ) a4 fullShare X4)
      ⊢ iprop((slot1 c q (kvBuf k v) -∗ owns (c : Thread nD τ) a4 fullShare X4
            -∗ Q ⟨k0_pay35 v29 v80, k0_pay36 v29 v80 v82, k0_pay38 v29 v80, k0_pay39 v29 v80 v82, k0_pay40 X4, k0_pay41 (batchRow 0 k), k0_pay42 (batchRow 0 v),
              k0_pay44 v29 v35 v48 (batchRow 0 k), k0_pay45 v29 v35 (batchRow 0 k), k0_pay46 (batchRow 0 v)⟩)
        -∗ run c (k0_part8 a0 h0 a1 h1 a2 h2 a3 h3 a4 h4 a5 h5 scr h6 cc0_scratch1 cc0_scratch2 v2 v29 v35 v48 v80 v82) Q) := by
  rw [k0_part8_eq_skeleton]; unfold k0_part8_skel slot1
  iintro ⟨Hs, H4⟩ Hk
  dsimp only
  rw [dif_neg hv, run_bind]
  iapply (load_owns c a4 fullShare X4 ![0, 0] zero2 _ _ _) $$ H4
  iintro H4
  rw [run_bind]
  iapply (load_key c Z1 q k v 0 ![1, 0, 0, 0, 0] rfl rfl rfl rfl _ _ (access_sub1 rfl rfl) _) $$ Hs
  iintro Hs
  rw [run_bind]
  iapply (load_val c Z1 q k v 0 ![1, 1, 0, 0, 0] rfl rfl rfl rfl _ _ (access_sub1 rfl rfl) _) $$ Hs
  iintro Hs
  iapply run_pure
  iapply Hk $$ Hs H4

theorem part8_wait (K : GSem nD τ sig → ℕ) (c : Dev nD) (hc : c ≠ 1) (v2 : BitVec 32)
    (hv : Scalar.cmpi .ne (Scalar.extui (Scalar.cmpi .ne v2 1#32) : BitVec 32) 0#32 = 1#1) (X4 : Vec F S256x512 .bf16)
    (v29 : FVec F S256x256 .bf16) (v35 : FVec F S128x128 .f32) (v48 : FVec F S128x1 .f32) (v80 v82 : FVec F S128x256 .bf16) (Q : _ → sProp 𝕄) :
    iprop(recs KC VC K ∗ due1 (F := F) c ∗ owns (c : Thread nD τ) a4 fullShare X4)
      ⊢ iprop((slot1 c fullShare (kvBuf (KC 1) (VC 1)) -∗ owns (c : Thread nD τ) a4 fullShare X4
            -∗ (∃ W, owes (c : Thread nD τ) (0 : CellTallies nD τ sig Unit) W) -∗ atPos ER (rc1 c) 1 ∅ 0
            -∗ Q ⟨k0_pay35 v29 v80, k0_pay36 v29 v80 v82, k0_pay38 v29 v80, k0_pay39 v29 v80 v82, k0_pay40 X4, k0_pay41 (batchRow 0 (KC 1)), k0_pay42 (batchRow 0 (VC 1)),
              k0_pay44 v29 v35 v48 (batchRow 0 (KC 1)), k0_pay45 v29 v35 (batchRow 0 (KC 1)), k0_pay46 (batchRow 0 (VC 1))⟩)
        -∗ run c (k0_part8 a0 h0 a1 h1 a2 h2 a3 h3 a4 h4 a5 h5 scr h6 cc0_scratch1 cc0_scratch2 v2 v29 v35 v48 v80 v82) Q) := by
  rw [k0_part8_eq_skeleton]; unfold k0_part8_skel slot1 due1
  iintro ⟨#HR, ⟨Hc, HO, Hat⟩, H4⟩ Hk
  dsimp only
  rw [dif_pos hv, run_bind]
  iapply (wait_dma_step KC VC K c 5 rS1 rfl 1 (by rw [duties_r1, if_neg hc]) (recvPay1 KC VC c) (payload_r1 KC VC c 1) S1M rfl _ _ _) $$ [Hc HO Hat]
  · isplitr; · iexact HR
    isplitl [Hc]; · iexact Hc
    isplitl [HO]; · iexact HO
    iexact Hat
  unfold recvPay1 slot1
  iintro HO Hat Hs
  rw [run_bind]
  iapply (load_owns c a4 fullShare X4 ![0, 0] zero2 _ _ _) $$ H4
  iintro H4
  rw [run_bind]
  iapply (load_key c Z1 fullShare (KC 1) (VC 1) 0 ![1, 0, 0, 0, 0] rfl rfl rfl rfl _ _ (access_sub1 rfl rfl) _) $$ Hs
  iintro Hs
  rw [run_bind]
  iapply (load_val c Z1 fullShare (KC 1) (VC 1) 0 ![1, 1, 0, 0, 0] rfl rfl rfl rfl _ _ (access_sub1 rfl rfl) _) $$ Hs
  iintro Hs
  iapply run_pure
  iapply Hk $$ Hs H4 HO Hat

theorem part9_run (c : Dev nD) (v29 : FVec F S256x256 .bf16) (v35 : FVec F S128x128 .f32) (v51 : FVec F S128x64 .f32) (v57 : FVec F S128x1 .f32) (v60 : FVec F S128x64 .f32)
    (v66 : FVec F S128x1 .f32) (v69 : FVec F S128x64 .f32) (v75 : FVec F S128x1 .f32) (v78 : FVec F S128x64 .f32) (v125 v127 : FVec F S128x256 .bf16)
    (v135 : FVec F S128x1 .f32) (v136 : FVec F S128x128 .bf16) (v137 : FVec F S128x64 .bf16) (Q : _ → sProp 𝕄) :
    Q (k0_pay47 v29 v35 v51 v57 v60 v66 v69 v75 v78 v125 v127 v135 v136 v137)
      ⊢ run c (k0_part9 a0 h0 a1 h1 a2 h2 a3 h3 a4 h4 a5 h5 scr h6 cc0_scratch1 cc0_scratch2 v29 v35 v51 v57 v60 v66 v69 v75 v78 v125 v127 v135 v136 v137) Q := by
  rw [k0_part9_eq_skeleton]; unfold k0_part9_skel
  exact run_pure c _ Q

theorem part10_run (c : Dev nD) (q : PosShare TreeShare) (k v : Vec F S2x128x256 .bf16) (v29 : FVec F S256x256 .bf16) (v35 : FVec F S128x128 .f32)
    (v88 : FVec F S128x1 .f32) (v91 : FVec F S128x64 .f32) (v97 : FVec F S128x1 .f32) (v100 : FVec F S128x64 .f32) (v106 : FVec F S128x1 .f32) (v109 : FVec F S128x64 .f32)
    (Q : _ → sProp 𝕄) :
    slot1 c q (kvBuf k v)
      ⊢ iprop((slot1 c q (kvBuf k v) -∗ Q ⟨k0_pay48 (batchRow 1 k), k0_pay49 (batchRow 1 v), k0_pay50 v29 v35 v88 v91 (batchRow 1 k) (batchRow 1 v),
            k0_pay51 v29 v35 v97 v100 (batchRow 1 k) (batchRow 1 v), k0_pay53 v29 v35 v106 (batchRow 1 k), k0_pay54 v29 v35 v109 (batchRow 1 k) (batchRow 1 v)⟩)
        -∗ run c (k0_part10 a0 h0 a1 h1 a2 h2 a3 h3 a4 h4 a5 h5 scr h6 cc0_scratch1 cc0_scratch2 v29 v35 v88 v91 v97 v100 v106 v109) Q) := by
  rw [k0_part10_eq_skeleton]; unfold k0_part10_skel slot1
  iintro Hs Hk
  rw [run_bind]
  iapply (load_key c Z1 q k v 1 ![1, 0, 1, 0, 0] rfl rfl rfl rfl _ _ (access_sub1 rfl rfl) _) $$ Hs
  iintro Hs
  rw [run_bind]
  iapply (load_val c Z1 q k v 1 ![1, 1, 1, 0, 0] rfl rfl rfl rfl _ _ (access_sub1 rfl rfl) _) $$ Hs
  iintro Hs
  iapply run_pure
  iapply Hk; iexact Hs

end Cert.KernelIdeal.Ex
-- ==== Proof.Body.lean ====
/- The body whole, on each device. -/
module

public import proofs.«01_k».proof.Proof.Reads

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (KC VC : Dev nD → Vec F S2x128x256 .bf16)

/-! ## What a device starts and ends the body with -/

/-- The tokens of the duties device `c` pays: its three signals, and, for an owner, its three sends. -/
def payToks (c : Dev nD) : sProp 𝕄 :=
  iprop((dutyTok ER (barCell (c + 1)) 0 c ∗ dutyTok ER (barCell (c + 2)) 0 c ∗ dutyTok ER (barCell (c + 3)) 0 c)
    ∗ (if c = 0 then iprop((dutyTok ER (sc0 0) 0 0 ∗ dutyTok ER (sc1 0) 0 0 ∗ dutyTok ER (sc2 0) 0 0)
          ∗ (dutyTok ER (rc0 1) 0 0 ∗ dutyTok ER (rc0 2) 0 0 ∗ dutyTok ER (rc0 3) 0 0))
      else if c = 1 then iprop((dutyTok ER (sc0 1) 0 1 ∗ dutyTok ER (sc1 1) 0 1 ∗ dutyTok ER (sc2 1) 0 1)
          ∗ (dutyTok ER (rc1 0) 0 1 ∗ dutyTok ER (rc1 2) 0 1 ∗ dutyTok ER (rc1 3) 0 1))
      else iprop(emp)))

/-- The credit of what is to come to device `c`: three signals, and the blocks it does not own. -/
def creds (c : Dev nD) : sProp 𝕄 :=
  iprop(cred (tallyAt (barCell c) () 3) ∗ (if c = 0 then iprop(emp) else cred (tallyAt (rc0 c) () N))
    ∗ (if c = 1 then iprop(emp) else cred (tallyAt (rc1 c) () N)))

/-- Its six cells, open at round 0. -/
def cellsOpen (c : Dev nD) : sProp 𝕄 :=
  iprop(atPos ER (barCell c) 0 ∅ 0 ∗ (atPos ER (sc0 c) 0 ∅ 0 ∗ atPos ER (sc1 c) 0 ∅ 0 ∗ atPos ER (sc2 c) 0 ∅ 0)
    ∗ (atPos ER (rc0 c) 0 ∅ 0 ∗ atPos ER (rc1 c) 0 ∅ 0)
    ∗ (reached ER (sc0 c) 0 ∗ reached ER (sc1 c) 0 ∗ reached ER (sc2 c) 0) ∗ (reached ER (rc0 c) 0 ∗ reached ER (rc1 c) 0))

/-- Its six counters, at zero. -/
def cellsZero (c : Dev nD) : sProp 𝕄 :=
  iprop(semVal (barCell c) 0 ∗ (semVal (sc0 c) 0 ∗ semVal (sc1 c) 0 ∗ semVal (sc2 c) 0) ∗ (semVal (rc0 c) 0 ∗ semVal (rc1 c) 0))

/-- The scratch, at some contents. -/
def anyScr (c : Dev nD) : sProp 𝕄 := iprop(∃ f : Buf (Elt F) (scrLoc c), scrLoc c ↦{fullShare} f)

theorem close_cell (K : GSem nD τ sig → ℕ) (c : Dev nD) (k : Fin 6) :
    iprop(recs KC VC K ∗ atPos ER (kcell (c, k)) 1 ∅ 0) ⊢ (|={Set.univ}=> semVal (kcell (c, k)) 0 : sProp 𝕄) := by
  iintro ⟨#HR, Hat⟩
  iapply (Rounds.cell_close ER (exRd KC VC) (Set.mem_univ (K (kcell (c, k)))) id (duties_later KC VC (kcell (c, k))))
  isplitr; · iapply (recs_inv KC VC K c k); iexact HR
  iexact Hat

theorem close_idle (K : GSem nD τ sig → ℕ) (c : Dev nD) (k : Fin 6) (hk : (exRd (F := F) KC VC).duties (kcell (c, k)) 0 = ∅) :
    iprop(recs KC VC K ∗ atPos ER (kcell (c, k)) 0 ∅ 0) ⊢ (|={Set.univ}=> semVal (kcell (c, k)) 0 : sProp 𝕄) := by
  iintro ⟨#HR, Hat⟩
  iapply (Rounds.cell_close ER (exRd KC VC) (Set.mem_univ (K (kcell (c, k)))) id
    (fun r _ => by rcases Nat.eq_zero_or_pos r with rfl | h; exacts [hk, duties_later KC VC _ r h]))
  isplitr; · iapply (recs_inv KC VC K c k); iexact HR
  iexact Hat

/-! ## Dealing out the halves at the entry -/

theorem deal0 (f : Buf (Elt F) (scrLoc 0)) :
    iprop((dutyTok ER (barCell (0 + 1)) 0 0 ∗ dutyTok ER (barCell (0 + 2)) 0 0 ∗ dutyTok ER (barCell (0 + 3)) 0 0) ∗ slot1 (0 : Dev nD) fullShare f
        ∗ reached ER (rc1 0) 0) ⊢ entry (F := F) 0 := by
  unfold entry barPay
  rw [if_neg (by decide), if_pos (by decide), if_neg (by decide), if_neg (by decide), if_neg (by decide), if_neg (by decide)]
  iintro ⟨⟨H1, H2, H3⟩, Hs, HR⟩
  isplitl [H1 Hs HR]
  · isplitl [H1]; · iexact H1
    isplitl [Hs]; · iexists f; iexact Hs
    iexact HR
  isplitl [H2]
  · isplitl [H2]; · iexact H2
    iempintro
  isplitl [H3]; · iexact H3
  iempintro

theorem deal1 (f : Buf (Elt F) (scrLoc 1)) :
    iprop((dutyTok ER (barCell (1 + 1)) 0 1 ∗ dutyTok ER (barCell (1 + 2)) 0 1 ∗ dutyTok ER (barCell (1 + 3)) 0 1) ∗ slot0 (1 : Dev nD) fullShare f
        ∗ reached ER (rc0 1) 0) ⊢ entry (F := F) 1 := by
  unfold entry barPay
  rw [if_neg (by decide), if_neg (by decide), if_neg (by decide), if_neg (by decide), if_pos (by decide)]
  iintro ⟨⟨H1, H2, H3⟩, Hs, HR⟩
  isplitl [H1]
  · isplitl [H1]; · iexact H1
    iempintro
  isplitl [H2]
  · isplitl [H2]; · iexact H2
    iempintro
  isplitl [H3]; · iexact H3
  isplitl [Hs]; · iexists f; iexact Hs
  iexact HR

theorem two_or_three : ∀ c : Dev nD, c ≠ 0 → c ≠ 1 → c = 2 ∨ c = 3 := by decide

theorem deal2 (c : Dev nD) (h0 : c ≠ 0) (h1 : c ≠ 1) (f g : Buf (Elt F) (scrLoc c)) :
    iprop((dutyTok ER (barCell (c + 1)) 0 c ∗ dutyTok ER (barCell (c + 2)) 0 c ∗ dutyTok ER (barCell (c + 3)) 0 c) ∗ slot0 c fullShare f ∗ slot1 c fullShare g
        ∗ reached ER (rc0 c) 0 ∗ reached ER (rc1 c) 0) ⊢ entry (F := F) c := by
  have hc := two_or_three c h0 h1
  unfold entry barPay
  iintro ⟨⟨H1, H2, H3⟩, Hs0, Hs1, HR0, HR1⟩
  rcases hc with rfl | rfl
  · rw [if_neg (by decide), if_neg (by decide), if_pos (by decide), if_neg (by decide), if_pos (by decide)]
    isplitl [H1]
    · isplitl [H1]; · iexact H1
      iempintro
    isplitl [H2 Hs0 HR0]
    · isplitl [H2]; · iexact H2
      isplitl [Hs0]; · iexists f; iexact Hs0
      iexact HR0
    isplitl [H3]; · iexact H3
    isplitl [Hs1]; · iexists g; iexact Hs1
    iexact HR1
  · rw [if_pos (by decide), if_neg (by decide), if_pos (by decide), if_neg (by decide), if_neg (by decide)]
    isplitl [H1 Hs0 HR0]
    · isplitl [H1]; · iexact H1
      isplitl [Hs0]; · iexists f; iexact Hs0
      iexact HR0
    isplitl [H2 Hs1 HR1]
    · isplitl [H2]; · iexact H2
      isplitl [Hs1]; · iexists g; iexact Hs1
      iexact HR1
    isplitl [H3]; · iexact H3
    iempintro

/-! ## The owners' last waits -/

variable (a0 : Memref sig .tc .vmem S256x512 .bf16) (h0 : a0.IsWhole) (a1 : Memref sig .tc .vmem S512x256 .bf16) (h1 : a1.IsWhole)
  (a2 : Memref sig .tc .vmem S2x128x256 .bf16) (h2 : a2.IsWhole) (a3 : Memref sig .tc .vmem S2x128x256 .bf16) (h3 : a3.IsWhole)
  (a4 : Memref sig .tc .vmem S256x512 .bf16) (h4 : a4.IsWhole) (a5 : Memref sig .tc .vmem S256x512 .f32) (h5 : a5.IsWhole)
  (h6 : (scr : Memref sig .tc .vmem S2x2x2x128x256 .bf16).IsWhole)

theorem part3_run (K : GSem nD τ sig → ℕ) (Q : _ → sProp 𝕄) :
    iprop(recs KC VC K ∗ (cred (tallyAt (sc0 0) () N) ∗ cred (tallyAt (sc1 0) () N))
        ∗ (∃ W, owes ((0 : Dev nD) : Thread nD τ) (0 : CellTallies nD τ sig Unit) W) ∗ (atPos ER (sc0 0) 0 ∅ 0 ∗ atPos ER (sc1 0) 0 ∅ 0))
      ⊢ iprop(((∃ W, owes ((0 : Dev nD) : Thread nD τ) (0 : CellTallies nD τ sig Unit) W) -∗ (atPos ER (sc0 0) 1 ∅ 0 ∗ atPos ER (sc1 0) 1 ∅ 0)
          -∗ slot0 0 (Transfers.shareTokN fullShare 0) (kv KC VC 0) -∗ slot0 0 (Transfers.shareTokN fullShare 1) (kv KC VC 0) -∗ Q ⟨⟩)
        -∗ run 0 (k0_part3 a0 h0 a1 h1 a2 h2 a3 h3 a4 h4 a5 h5 scr h6 cc0_scratch1 cc0_scratch2) Q) := by
  rw [k0_part3_eq_skeleton]; unfold k0_part3_skel
  iintro ⟨#HR, ⟨Hc0, Hc1⟩, HO, ⟨Ha0, Ha1⟩⟩ Hk
  dsimp only
  rw [run_bind]
  iapply (wait_dma_step KC VC K 0 1 sS0 rfl 0 (by rw [duties_s0]; rfl) (slot0 0 (Transfers.shareTokN fullShare 0) (kv KC VC 0))
    ((payload_s0 KC VC 0 0).trans (by unfold sendPay; exact if_pos rfl)) S0M rfl _ _ _) $$ [Hc0 HO Ha0]
  · isplitr; · iexact HR
    isplitl [Hc0]; · iexact Hc0
    isplitl [HO]; · iexact HO
    iexact Ha0
  iintro HO Ha0 Hs0
  rw [run_bind]
  iapply (wait_dma_step KC VC K 0 2 sS1 rfl 0 (by rw [duties_s1]; rfl) (slot0 0 (Transfers.shareTokN fullShare 1) (kv KC VC 0))
    ((payload_s1 KC VC 0 0).trans (by unfold sendPay; exact if_pos rfl)) S0M rfl _ _ _) $$ [Hc1 HO Ha1]
  · isplitr; · iexact HR
    isplitl [Hc1]; · iexact Hc1
    isplitl [HO]; · iexact HO
    iexact Ha1
  iintro HO Ha1 Hs1
  iapply run_pure
  iapply Hk $$ HO [Ha0 Ha1] Hs0 Hs1
  isplitl [Ha0]; · iexact Ha0
  iexact Ha1

theorem part4_run (K : GSem nD τ sig → ℕ) (Q : _ → sProp 𝕄) :
    iprop(recs KC VC K ∗ (cred (tallyAt (sc0 1) () N) ∗ cred (tallyAt (sc1 1) () N))
        ∗ (∃ W, owes ((1 : Dev nD) : Thread nD τ) (0 : CellTallies nD τ sig Unit) W) ∗ (atPos ER (sc0 1) 0 ∅ 0 ∗ atPos ER (sc1 1) 0 ∅ 0))
      ⊢ iprop(((∃ W, owes ((1 : Dev nD) : Thread nD τ) (0 : CellTallies nD τ sig Unit) W) -∗ (atPos ER (sc0 1) 1 ∅ 0 ∗ atPos ER (sc1 1) 1 ∅ 0)
          -∗ slot1 1 (Transfers.shareTokN fullShare 0) (kv KC VC 1) -∗ slot1 1 (Transfers.shareTokN fullShare 1) (kv KC VC 1) -∗ Q ⟨⟩)
        -∗ run 1 (k0_part4 a0 h0 a1 h1 a2 h2 a3 h3 a4 h4 a5 h5 scr h6 cc0_scratch1 cc0_scratch2) Q) := by
  rw [k0_part4_eq_skeleton]; unfold k0_part4_skel
  iintro ⟨#HR, ⟨Hc0, Hc1⟩, HO, ⟨Ha0, Ha1⟩⟩ Hk
  dsimp only
  rw [run_bind]
  iapply (wait_dma_step KC VC K 1 1 sS0 rfl 1 (by rw [duties_s0]; rfl) (slot1 1 (Transfers.shareTokN fullShare 0) (kv KC VC 1))
    ((payload_s0 KC VC 1 1).trans (by unfold sendPay; rw [if_neg (by decide)]; exact if_pos rfl)) S1M rfl _ _ _) $$ [Hc0 HO Ha0]
  · isplitr; · iexact HR
    isplitl [Hc0]; · iexact Hc0
    isplitl [HO]; · iexact HO
    iexact Ha0
  iintro HO Ha0 Hs0
  rw [run_bind]
  iapply (wait_dma_step KC VC K 1 2 sS1 rfl 1 (by rw [duties_s1]; rfl) (slot1 1 (Transfers.shareTokN fullShare 1) (kv KC VC 1))
    ((payload_s1 KC VC 1 1).trans (by unfold sendPay; rw [if_neg (by decide)]; exact if_pos rfl)) S1M rfl _ _ _) $$ [Hc1 HO Ha1]
  · isplitr; · iexact HR
    isplitl [Hc1]; · iexact Hc1
    isplitl [HO]; · iexact HO
    iexact Ha1
  iintro HO Ha1 Hs1
  iapply run_pure
  iapply Hk $$ HO [Ha0 Ha1] Hs0 Hs1
  isplitl [Ha0]; · iexact Ha0
  iexact Ha1

/-! ## The body on each device -/

/-- The six windows of device `c`. -/
def wins (c : Dev nD) (X0 : Vec F S256x512 .bf16) (X1 : Vec F S512x256 .bf16) (X2 X3 : Vec F S2x128x256 .bf16) (X4 : Vec F S256x512 .bf16) (X5 : Vec F S256x512 .f32) : sProp 𝕄 :=
  iprop(owns (c : Thread nD τ) a0 fullShare X0 ∗ owns (c : Thread nD τ) a1 fullShare X1 ∗ owns (c : Thread nD τ) a2 fullShare X2
    ∗ owns (c : Thread nD τ) a3 fullShare X3 ∗ owns (c : Thread nD τ) a4 fullShare X4 ∗ owns (c : Thread nD τ) a5 fullShare X5)

def bodyPre (K : GSem nD τ sig → ℕ) (c : Dev nD) (X0 : Vec F S256x512 .bf16) (X1 : Vec F S512x256 .bf16) (X4 : Vec F S256x512 .bf16) (X5 : Vec F S256x512 .f32) : sProp 𝕄 :=
  iprop(recs KC VC K ∗ levAts L lv ∗ (∃ W, owes (c : Thread nD τ) (O₀ c) W) ∗ cellsOpen (F := F) c ∗ payToks (F := F) c ∗ creds (F := F) c ∗ anyScr (F := F) c
    ∗ wins a0 a1 a2 a3 a4 a5 c X0 X1 (KC c) (VC c) X4 X5)

def bodyPost (c : Dev nD) (X0 : Vec F S256x512 .bf16) (X1 : Vec F S512x256 .bf16) (X4 : Vec F S256x512 .bf16) : sProp 𝕄 :=
  iprop(cellsZero (F := F) c ∗ (∃ W, owes (c : Thread nD τ) (0 : CellTallies nD τ sig Unit) W) ∗ anyScr (F := F) c
    ∗ wins a0 a1 a2 a3 a4 a5 c X0 X1 (KC c) (VC c) X4 (bodyOut X0 X1 X4 (KC 0) (VC 0) (KC 1) (VC 1)))

set_option maxHeartbeats 800000 in
theorem body_run0 (K : GSem nD τ sig → ℕ) (X0 : Vec F S256x512 .bf16) (X1 : Vec F S512x256 .bf16) (X4 : Vec F S256x512 .bf16) (X5 : Vec F S256x512 .f32)
    (Q : PUnit → sProp 𝕄) :
    bodyPre KC VC a0 a1 a2 a3 a4 a5 K 0 X0 X1 X4 X5
      ⊢ iprop((bodyPost KC VC a0 a1 a2 a3 a4 a5 0 X0 X1 X4 -∗ Q ⟨⟩)
        -∗ run 0 (cc0_body a0 h0 a1 h1 a2 h2 a3 h3 a4 h4 a5 h5 scr h6 cc0_scratch1 cc0_scratch2) Q) := by
  rw [cc0_body_eq_skeleton]; unfold cc0_body_skel bodyPre wins payToks creds cellsOpen anyScr
  rw [if_pos rfl, if_pos rfl, if_neg (show (0 : Dev nD) ≠ 1 by decide)]
  iintro ⟨#HR, #Hlev, ⟨%W, HO⟩, ⟨HaB, ⟨Ha0, Ha1, Ha2⟩, ⟨Hb0, Hb1⟩, #Hrs, ⟨#Hr0, #Hr1⟩⟩, ⟨Htb, ⟨Hts, Htr⟩⟩, ⟨HcB, -, Hc1⟩, ⟨%f, Hf⟩, ⟨H0, H1, H2, H3, H4, H5⟩⟩ Hk
  ihave Hf := (scr_split 0 f) $$ Hf
  icases Hf with ⟨Hs0, Hs1⟩
  ihave Hen := (deal0 (F := F) f) $$ [Htb Hs1]
  · isplitl [Htb]; · iexact Htb
    isplitl [Hs1]; · iexact Hs1
    iexact Hr1
  rw [run_bind]
  iapply (part5_run0 KC VC a0 h0 a1 h1 a2 h2 a3 h3 a4 h4 a5 h5 h6 K X0 X1 f W _) $$ [HO Hen HcB HaB H0 H1 H2 H3 Hs0 Hts Htr]
  · isplitl [HO Hen HcB HaB]
    · isplitr; · iexact HR
      isplitl [HO]; · iexact HO
      isplitl [Hen]; · iexact Hen
      isplitl [HcB]; · iexact HcB
      isplitr; · iexact Hlev
      iexact HaB
    isplitl [H0 H1 H2 H3]
    · isplitl [H0]; · iexact H0
      isplitl [H1]; · iexact H1
      isplitl [H2]; · iexact H2
      iexact H3
    isplitl [Hs0]; · iexact Hs0
    isplitl [Hts]; · iexact Hts
    isplitr; · iexact Hrs
    iexact Htr
  iintro ⟨H0, H1, H2, H3⟩ Hs0 ⟨Hcs0, Hcs1, Hcs2⟩ HaB HO
  dsimp only
  rw [run_bind]
  iapply (part6_stay a0 h0 a1 h1 a2 h2 a3 h3 a4 h4 a5 h5 h6 0 _ (KC 0) (VC 0) (devWord 0) (by decide) _ _ _) $$ Hs0
  iintro Hs0
  dsimp only
  rw [run_bind]
  iapply (part7_run a0 h0 a1 h1 a2 h2 a3 h3 a4 h4 a5 h5 h6 0 _ (KC 0) (VC 0) _ _ _ _ _ _) $$ Hs0
  iintro Hs0
  dsimp only
  rw [run_bind]
  iapply (part8_wait KC VC a0 h0 a1 h1 a2 h2 a3 h3 a4 h4 a5 h5 h6 K 0 (by decide) (devWord 0) (by decide) X4 _ _ _ _ _ _) $$ [Hc1 HO Hb1 H4]
  · isplitr; · iexact HR
    isplitl [Hc1 HO Hb1]
    · unfold due1
      isplitl [Hc1]; · iexact Hc1
      isplitl [HO]; · iexact HO
      iexact Hb1
    iexact H4
  iintro Hs1 H4 HO Hb1
  dsimp only
  rw [run_bind]
  iapply (part9_run a0 h0 a1 h1 a2 h2 a3 h3 a4 h4 a5 h5 h6 0 _ _ _ _ _ _ _ _ _ _ _ _ _ _ _)
  rw [run_bind]
  iapply (part10_run a0 h0 a1 h1 a2 h2 a3 h3 a4 h4 a5 h5 h6 0 _ (KC 1) (VC 1) _ _ _ _ _ _ _ _ _) $$ Hs1
  iintro Hs1
  dsimp only
  rw [run_bind]
  iapply (load_owns 0 a5 fullShare X5 ![0, 0] zero2 _ _ _) $$ H5
  iintro H5
  rw [run_bind]
  iapply (store_owns 0 a5 X5 _ ![0, 0] zero2 _ _ _) $$ H5
  iintro H5
  rw [dif_pos (by decide), run_bind]
  iapply (part3_run KC VC a0 h0 a1 h1 a2 h2 a3 h3 a4 h4 a5 h5 h6 K _) $$ [Hcs0 Hcs1 HO Ha0 Ha1]
  · isplitr; · iexact HR
    isplitl [Hcs0 Hcs1]
    · isplitl [Hcs0]; · iexact Hcs0
      iexact Hcs1
    isplitl [HO]; · iexact HO
    isplitl [Ha0]; · iexact Ha0
    iexact Ha1
  iintro HO ⟨Ha0, Ha1⟩ Ht0 Ht1
  rw [run_bind]
  iapply (wait_dma_step KC VC K 0 3 sS2 rfl 0 (by rw [duties_s2]; rfl) (slot0 0 (Transfers.shareTokN fullShare 2) (kv KC VC 0))
    ((payload_s2 KC VC 0 0).trans (by unfold sendPay; exact if_pos rfl)) S0M rfl _ _ _) $$ [Hcs2 HO Ha2]
  · isplitr; · iexact HR
    isplitl [Hcs2]; · iexact Hcs2
    isplitl [HO]; · iexact HO
    iexact Ha2
  iintro HO Ha2 Ht2
  rw [dif_neg (by decide)]
  unfold run
  rw [wp_pure]
  imod (close_cell KC VC K 0 0) $$ [HaB] with HzB
  · isplitr; · iexact HR
    iexact HaB
  imod (close_cell KC VC K 0 1) $$ [Ha0] with Hz0
  · isplitr; · iexact HR
    iexact Ha0
  imod (close_cell KC VC K 0 2) $$ [Ha1] with Hz1
  · isplitr; · iexact HR
    iexact Ha1
  imod (close_cell KC VC K 0 3) $$ [Ha2] with Hz2
  · isplitr; · iexact HR
    iexact Ha2
  imod (close_idle KC VC K 0 4 (by rw [show kcell (0, 4) = rc0 0 from rfl, duties_r0]; rfl)) $$ [Hb0] with Hz3
  · isplitr; · iexact HR
    iexact Hb0
  imod (close_cell KC VC K 0 5) $$ [Hb1] with Hz4
  · isplitr; · iexact HR
    iexact Hb1
  imodintro
  iapply Hk
  unfold bodyPost cellsZero anyScr wins
  isplitl [HzB Hz0 Hz1 Hz2 Hz3 Hz4]
  · isplitl [HzB]; · iexact HzB
    isplitl [Hz0 Hz1 Hz2]
    · isplitl [Hz0]; · iexact Hz0
      isplitl [Hz1]; · iexact Hz1
      iexact Hz2
    isplitl [Hz3]; · iexact Hz3
    iexact Hz4
  isplitl [HO]; · iexact HO
  isplitl [Hs0 Hs1 Ht0 Ht1 Ht2]
  · iapply (scr_join 0 (kv KC VC 0) (kv KC VC 1))
    isplitl [Hs0 Ht0 Ht1 Ht2]
    · unfold slot0
      iapply (shares_join _)
      isplitl [Hs0]; · iexact Hs0
      isplitl [Ht0]; · iexact Ht0
      isplitl [Ht1]; · iexact Ht1
      iexact Ht2
    iexact Hs1
  isplitl [H0]; · iexact H0
  isplitl [H1]; · iexact H1
  isplitl [H2]; · iexact H2
  isplitl [H3]; · iexact H3
  isplitl [H4]; · iexact H4
  iexact H5

set_option maxHeartbeats 800000 in
theorem body_run1 (K : GSem nD τ sig → ℕ) (X0 : Vec F S256x512 .bf16) (X1 : Vec F S512x256 .bf16) (X4 : Vec F S256x512 .bf16) (X5 : Vec F S256x512 .f32)
    (Q : PUnit → sProp 𝕄) :
    bodyPre KC VC a0 a1 a2 a3 a4 a5 K 1 X0 X1 X4 X5
      ⊢ iprop((bodyPost KC VC a0 a1 a2 a3 a4 a5 1 X0 X1 X4 -∗ Q ⟨⟩)
        -∗ run 1 (cc0_body a0 h0 a1 h1 a2 h2 a3 h3 a4 h4 a5 h5 scr h6 cc0_scratch1 cc0_scratch2) Q) := by
  rw [cc0_body_eq_skeleton]; unfold cc0_body_skel bodyPre wins payToks creds cellsOpen anyScr
  rw [if_neg (show (1 : Dev nD) ≠ 0 by decide), if_pos rfl, if_neg (show (1 : Dev nD) ≠ 0 by decide), if_pos rfl]
  iintro ⟨#HR, #Hlev, ⟨%W, HO⟩, ⟨HaB, ⟨Ha0, Ha1, Ha2⟩, ⟨Hb0, Hb1⟩, #Hrs, ⟨#Hr0, #Hr1⟩⟩, ⟨Htb, ⟨Hts, Htr⟩⟩, ⟨HcB, Hc1, -⟩, ⟨%f, Hf⟩, ⟨H0, H1, H2, H3, H4, H5⟩⟩ Hk
  ihave Hf := (scr_split 1 f) $$ Hf
  icases Hf with ⟨Hs0, Hs1⟩
  ihave Hen := (deal1 (F := F) f) $$ [Htb Hs0]
  · isplitl [Htb]; · iexact Htb
    isplitl [Hs0]; · iexact Hs0
    iexact Hr0
  rw [run_bind]
  iapply (part5_run1 KC VC a0 h0 a1 h1 a2 h2 a3 h3 a4 h4 a5 h5 h6 K X0 X1 f W _) $$ [HO Hen HcB HaB H0 H1 H2 H3 Hs1 Hts Htr]
  · isplitl [HO Hen HcB HaB]
    · isplitr; · iexact HR
      isplitl [HO]; · iexact HO
      isplitl [Hen]; · iexact Hen
      isplitl [HcB]; · iexact HcB
      isplitr; · iexact Hlev
      iexact HaB
    isplitl [H0 H1 H2 H3]
    · isplitl [H0]; · iexact H0
      isplitl [H1]; · iexact H1
      isplitl [H2]; · iexact H2
      iexact H3
    isplitl [Hs1]; · iexact Hs1
    isplitl [Hts]; · iexact Hts
    isplitr; · iexact Hrs
    iexact Htr
  iintro ⟨H0, H1, H2, H3⟩ Hs1 ⟨Hcs0, Hcs1, Hcs2⟩ HaB HO
  dsimp only
  rw [run_bind]
  iapply (part6_wait KC VC a0 h0 a1 h1 a2 h2 a3 h3 a4 h4 a5 h5 h6 K 1 (by decide) (devWord 1) (by decide) _ _ _) $$ [Hc1 HO Hb0]
  · isplitr; · iexact HR
    unfold due0
    isplitl [Hc1]; · iexact Hc1
    isplitl [HO]; · iexact HO
    iexact Hb0
  iintro Hs0 HO Hb0
  dsimp only
  rw [run_bind]
  iapply (part7_run a0 h0 a1 h1 a2 h2 a3 h3 a4 h4 a5 h5 h6 1 _ (KC 0) (VC 0) _ _ _ _ _ _) $$ Hs0
  iintro Hs0
  dsimp only
  rw [run_bind]
  iapply (part8_stay a0 h0 a1 h1 a2 h2 a3 h3 a4 h4 a5 h5 h6 1 _ (KC 1) (VC 1) (devWord 1) (by decide) X4 _ _ _ _ _ _) $$ [Hs1 H4]
  · isplitl [Hs1]; · iexact Hs1
    iexact H4
  iintro Hs1 H4
  dsimp only
  rw [run_bind]
  iapply (part9_run a0 h0 a1 h1 a2 h2 a3 h3 a4 h4 a5 h5 h6 1 _ _ _ _ _ _ _ _ _ _ _ _ _ _ _)
  rw [run_bind]
  iapply (part10_run a0 h0 a1 h1 a2 h2 a3 h3 a4 h4 a5 h5 h6 1 _ (KC 1) (VC 1) _ _ _ _ _ _ _ _ _) $$ Hs1
  iintro Hs1
  dsimp only
  rw [run_bind]
  iapply (load_owns 1 a5 fullShare X5 ![0, 0] zero2 _ _ _) $$ H5
  iintro H5
  rw [run_bind]
  iapply (store_owns 1 a5 X5 _ ![0, 0] zero2 _ _ _) $$ H5
  iintro H5
  rw [dif_neg (by decide), dif_pos (by decide), run_bind]
  iapply (part4_run KC VC a0 h0 a1 h1 a2 h2 a3 h3 a4 h4 a5 h5 h6 K _) $$ [Hcs0 Hcs1 HO Ha0 Ha1]
  · isplitr; · iexact HR
    isplitl [Hcs0 Hcs1]
    · isplitl [Hcs0]; · iexact Hcs0
      iexact Hcs1
    isplitl [HO]; · iexact HO
    isplitl [Ha0]; · iexact Ha0
    iexact Ha1
  iintro HO ⟨Ha0, Ha1⟩ Ht0 Ht1
  rw [run_bind]
  iapply (wait_dma_step KC VC K 1 3 sS2 rfl 1 (by rw [duties_s2]; rfl) (slot1 1 (Transfers.shareTokN fullShare 2) (kv KC VC 1))
    ((payload_s2 KC VC 1 1).trans (by unfold sendPay; rw [if_neg (by decide)]; exact if_pos rfl)) S1M rfl _ _ _) $$ [Hcs2 HO Ha2]
  · isplitr; · iexact HR
    isplitl [Hcs2]; · iexact Hcs2
    isplitl [HO]; · iexact HO
    iexact Ha2
  iintro HO Ha2 Ht2
  unfold run
  rw [wp_pure]
  imod (close_cell KC VC K 1 0) $$ [HaB] with HzB
  · isplitr; · iexact HR
    iexact HaB
  imod (close_cell KC VC K 1 1) $$ [Ha0] with Hz0
  · isplitr; · iexact HR
    iexact Ha0
  imod (close_cell KC VC K 1 2) $$ [Ha1] with Hz1
  · isplitr; · iexact HR
    iexact Ha1
  imod (close_cell KC VC K 1 3) $$ [Ha2] with Hz2
  · isplitr; · iexact HR
    iexact Ha2
  imod (close_cell KC VC K 1 4) $$ [Hb0] with Hz3
  · isplitr; · iexact HR
    iexact Hb0
  imod (close_idle KC VC K 1 5 (by rw [show kcell (1, 5) = rc1 1 from rfl, duties_r1]; rfl)) $$ [Hb1] with Hz4
  · isplitr; · iexact HR
    iexact Hb1
  imodintro
  iapply Hk
  unfold bodyPost cellsZero anyScr wins
  isplitl [HzB Hz0 Hz1 Hz2 Hz3 Hz4]
  · isplitl [HzB]; · iexact HzB
    isplitl [Hz0 Hz1 Hz2]
    · isplitl [Hz0]; · iexact Hz0
      isplitl [Hz1]; · iexact Hz1
      iexact Hz2
    isplitl [Hz3]; · iexact Hz3
    iexact Hz4
  isplitl [HO]; · iexact HO
  isplitl [Hs0 Hs1 Ht0 Ht1 Ht2]
  · iapply (scr_join 1 (kv KC VC 0) (kv KC VC 1))
    isplitl [Hs0]; · iexact Hs0
    unfold slot1
    iapply (shares_join _)
    isplitl [Hs1]; · iexact Hs1
    isplitl [Ht0]; · iexact Ht0
    isplitl [Ht1]; · iexact Ht1
    iexact Ht2
  isplitl [H0]; · iexact H0
  isplitl [H1]; · iexact H1
  isplitl [H2]; · iexact H2
  isplitl [H3]; · iexact H3
  isplitl [H4]; · iexact H4
  iexact H5

theorem word_ne0 : ∀ c : Dev nD, c ≠ 0 → Scalar.cmpi .ne (Scalar.extui (Scalar.cmpi .ne (devWord c) 0#32) : BitVec 32) 0#32 = 1#1 := by decide
theorem word_ne1 : ∀ c : Dev nD, c ≠ 1 → Scalar.cmpi .ne (Scalar.extui (Scalar.cmpi .ne (devWord c) 1#32) : BitVec 32) 0#32 = 1#1 := by decide
theorem word_eq0 : ∀ c : Dev nD, c ≠ 0 → ¬ Scalar.cmpi .ne (Scalar.extui (Scalar.cmpi .eq (devWord c) 0#32) : BitVec 32) 0#32 = 1#1 := by decide
theorem word_eq1 : ∀ c : Dev nD, c ≠ 1 → ¬ Scalar.cmpi .ne (Scalar.extui (Scalar.cmpi .eq (devWord c) 1#32) : BitVec 32) 0#32 = 1#1 := by decide

set_option maxHeartbeats 800000 in
theorem body_run2 (K : GSem nD τ sig → ℕ) (c : Dev nD) (hc0 : c ≠ 0) (hc1 : c ≠ 1) (X0 : Vec F S256x512 .bf16) (X1 : Vec F S512x256 .bf16) (X4 : Vec F S256x512 .bf16) (X5 : Vec F S256x512 .f32)
    (Q : PUnit → sProp 𝕄) :
    bodyPre KC VC a0 a1 a2 a3 a4 a5 K c X0 X1 X4 X5
      ⊢ iprop((bodyPost KC VC a0 a1 a2 a3 a4 a5 c X0 X1 X4 -∗ Q ⟨⟩)
        -∗ run c (cc0_body a0 h0 a1 h1 a2 h2 a3 h3 a4 h4 a5 h5 scr h6 cc0_scratch1 cc0_scratch2) Q) := by
  rw [cc0_body_eq_skeleton]; unfold cc0_body_skel bodyPre wins payToks creds cellsOpen anyScr
  rw [if_neg hc0, if_neg hc1, if_neg hc0, if_neg hc1]
  iintro ⟨#HR, #Hlev, ⟨%W, HO⟩, ⟨HaB, ⟨Ha0, Ha1, Ha2⟩, ⟨Hb0, Hb1⟩, #Hrs, ⟨#Hr0, #Hr1⟩⟩, ⟨Htb, -⟩, ⟨HcB, Hc0, Hc1⟩, ⟨%f, Hf⟩, ⟨H0, H1, H2, H3, H4, H5⟩⟩ Hk
  ihave Hf := (scr_split c f) $$ Hf
  icases Hf with ⟨Hs0, Hs1⟩
  ihave Hen := (deal2 (F := F) c hc0 hc1 f f) $$ [Htb Hs0 Hs1]
  · isplitl [Htb]; · iexact Htb
    isplitl [Hs0]; · iexact Hs0
    isplitl [Hs1]; · iexact Hs1
    isplitr; · iexact Hr0
    iexact Hr1
  rw [run_bind]
  iapply (part5_run2 KC VC a0 h0 a1 h1 a2 h2 a3 h3 a4 h4 a5 h5 h6 K c hc0 hc1 X0 X1 W _) $$ [HO Hen HcB HaB H0 H1]
  · isplitl [HO Hen HcB HaB]
    · isplitr; · iexact HR
      isplitl [HO]; · iexact HO
      isplitl [Hen]; · iexact Hen
      isplitl [HcB]; · iexact HcB
      isplitr; · iexact Hlev
      iexact HaB
    isplitl [H0]; · iexact H0
    iexact H1
  iintro ⟨H0, H1⟩ HaB HO
  dsimp only
  rw [run_bind]
  iapply (part6_wait KC VC a0 h0 a1 h1 a2 h2 a3 h3 a4 h4 a5 h5 h6 K c hc0 (devWord c) (word_ne0 c hc0) _ _ _) $$ [Hc0 HO Hb0]
  · isplitr; · iexact HR
    unfold due0
    isplitl [Hc0]; · iexact Hc0
    isplitl [HO]; · iexact HO
    iexact Hb0
  iintro Hs0 HO Hb0
  dsimp only
  rw [run_bind]
  iapply (part7_run a0 h0 a1 h1 a2 h2 a3 h3 a4 h4 a5 h5 h6 c _ (KC 0) (VC 0) _ _ _ _ _ _) $$ Hs0
  iintro Hs0
  dsimp only
  rw [run_bind]
  iapply (part8_wait KC VC a0 h0 a1 h1 a2 h2 a3 h3 a4 h4 a5 h5 h6 K c hc1 (devWord c) (word_ne1 c hc1) X4 _ _ _ _ _ _) $$ [Hc1 HO Hb1 H4]
  · isplitr; · iexact HR
    isplitl [Hc1 HO Hb1]
    · unfold due1
      isplitl [Hc1]; · iexact Hc1
      isplitl [HO]; · iexact HO
      iexact Hb1
    iexact H4
  iintro Hs1 H4 HO Hb1
  dsimp only
  rw [run_bind]
  iapply (part9_run a0 h0 a1 h1 a2 h2 a3 h3 a4 h4 a5 h5 h6 c _ _ _ _ _ _ _ _ _ _ _ _ _ _ _)
  rw [run_bind]
  iapply (part10_run a0 h0 a1 h1 a2 h2 a3 h3 a4 h4 a5 h5 h6 c _ (KC 1) (VC 1) _ _ _ _ _ _ _ _ _) $$ Hs1
  iintro Hs1
  dsimp only
  rw [run_bind]
  iapply (load_owns c a5 fullShare X5 ![0, 0] zero2 _ _ _) $$ H5
  iintro H5
  rw [run_bind]
  iapply (store_owns c a5 X5 _ ![0, 0] zero2 _ _ _) $$ H5
  iintro H5
  rw [dif_neg (word_eq0 c hc0), dif_neg (word_eq1 c hc1)]
  unfold run
  rw [wp_pure]
  imod (close_cell KC VC K c 0) $$ [HaB] with HzB
  · isplitr; · iexact HR
    iexact HaB
  imod (close_idle KC VC K c 1 (by rw [show kcell (c, 1) = sc0 c from rfl, duties_s0, if_neg (fun h => h.elim hc0 hc1)])) $$ [Ha0] with Hz0
  · isplitr; · iexact HR
    iexact Ha0
  imod (close_idle KC VC K c 2 (by rw [show kcell (c, 2) = sc1 c from rfl, duties_s1, if_neg (fun h => h.elim hc0 hc1)])) $$ [Ha1] with Hz1
  · isplitr; · iexact HR
    iexact Ha1
  imod (close_idle KC VC K c 3 (by rw [show kcell (c, 3) = sc2 c from rfl, duties_s2, if_neg (fun h => h.elim hc0 hc1)])) $$ [Ha2] with Hz2
  · isplitr; · iexact HR
    iexact Ha2
  imod (close_cell KC VC K c 4) $$ [Hb0] with Hz3
  · isplitr; · iexact HR
    iexact Hb0
  imod (close_cell KC VC K c 5) $$ [Hb1] with Hz4
  · isplitr; · iexact HR
    iexact Hb1
  imodintro
  iapply Hk
  unfold bodyPost cellsZero anyScr wins
  isplitl [HzB Hz0 Hz1 Hz2 Hz3 Hz4]
  · isplitl [HzB]; · iexact HzB
    isplitl [Hz0 Hz1 Hz2]
    · isplitl [Hz0]; · iexact Hz0
      isplitl [Hz1]; · iexact Hz1
      iexact Hz2
    isplitl [Hz3]; · iexact Hz3
    iexact Hz4
  isplitl [HO]; · iexact HO
  isplitl [Hs0 Hs1]
  · iapply (scr_join c (kv KC VC 0) (kv KC VC 1))
    isplitl [Hs0]; · iexact Hs0
    iexact Hs1
  isplitl [H0]; · iexact H0
  isplitl [H1]; · iexact H1
  isplitl [H2]; · iexact H2
  isplitl [H3]; · iexact H3
  isplitl [H4]; · iexact H4
  iexact H5

/-- The body on any device. -/
theorem body_run (K : GSem nD τ sig → ℕ) (c : Dev nD) (X0 : Vec F S256x512 .bf16) (X1 : Vec F S512x256 .bf16) (X4 : Vec F S256x512 .bf16) (X5 : Vec F S256x512 .f32)
    (Q : PUnit → sProp 𝕄) :
    bodyPre KC VC a0 a1 a2 a3 a4 a5 K c X0 X1 X4 X5
      ⊢ iprop((bodyPost KC VC a0 a1 a2 a3 a4 a5 c X0 X1 X4 -∗ Q ⟨⟩)
        -∗ run c (cc0_body a0 h0 a1 h1 a2 h2 a3 h3 a4 h4 a5 h5 scr h6 cc0_scratch1 cc0_scratch2) Q) := by
  by_cases hc0 : c = 0
  · subst hc0; exact body_run0 KC VC a0 h0 a1 h1 a2 h2 a3 h3 a4 h4 a5 h5 h6 K X0 X1 X4 X5 Q
  by_cases hc1 : c = 1
  · subst hc1; exact body_run1 KC VC a0 h0 a1 h1 a2 h2 a3 h3 a4 h4 a5 h5 h6 K X0 X1 X4 X5 Q
  exact body_run2 KC VC a0 h0 a1 h1 a2 h2 a3 h3 a4 h4 a5 h5 h6 K c hc0 hc1 X0 X1 X4 X5 Q

end Cert.KernelIdeal.Ex
-- ==== Proof.Region.lean ====
module

public import proofs.«01_k».proof.Proof.Body
public import Idealize.ShloMosaic.Lib.Pipeline.ValueKit

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

/-! ## The proof data of the region -/

/-- The keys and the values that device `c` holds when the region is entered. -/
abbrev keyAt (c : Dev nD) : Vec F S2x128x256 .bf16 := iblk m c 2 t0_0
abbrev valAt (c : Dev nD) : Vec F S2x128x256 .bf16 := iblk m c 3 t0_0
abbrev hidAt (c : Dev nD) : Vec F S256x512 .bf16 := iblk m c 0 t0_0
abbrev wqAt (c : Dev nD) : Vec F S512x256 .bf16 := iblk m c 1 t0_0
abbrev woAt (c : Dev nD) : Vec F S256x512 .bf16 := iblk m c 4 t0_0

/-- What device `c` leaves in its result. -/
def outAt (c : Dev nD) : Vec F S256x512 .f32 :=
  bodyOut (hidAt m c) (wqAt m c) (woAt m c) (keyAt m 0) (valAt m 0) (keyAt m 1) (valAt m 1)

/-- What the exchange needs at the region's entry. -/
def enterWith (c : Dev nD) : sProp 𝕄 :=
  iprop((∃ K, recs (keyAt m) (valAt m) K) ∗ cellsOpen (F := F) c ∗ payToks (F := F) c ∗ creds (F := F) c ∗ levAts L lv)

def anyPrng (c : Dev nD) : sProp 𝕄 := iprop(∃ r, prngReg c r)

def dat (c : Dev nD) : Dat τ (Elt F) Unit ℕ UU ℕ cfg0 c where
  A w := V m c (Pipeline.arrRef spec0 w)
  after := fun
    | 0, _ => hidAt m c | 1, _ => wqAt m c | 2, _ => keyAt m c | 3, _ => valAt m c | 4, _ => woAt m c
    | 5, _ => outAt m c
    | ⟨_ + 6, h⟩, _ => absurd h (Nat.not_lt.2 (Nat.le_add_left _ _))
  Φ t := if t.val = 0 then iprop(enterWith m c ∗ anyScr (F := F) c ∗ anyPrng (F := F) c)
    else iprop(cellsZero (F := F) c ∗ anyScr (F := F) c ∗ anyPrng (F := F) c)
  q _ := fullShare
  owed t := if t.val = 0 then O₀ c else 0

theorem dat_first (c : Dev nD) : (dat m c).Φ t0_0.castSucc = iprop(enterWith m c ∗ anyScr (F := F) c ∗ anyPrng (F := F) c) := rfl
theorem dat_last (c : Dev nD) : (dat m c).Φ t0_0.succ = iprop(cellsZero (F := F) c ∗ anyScr (F := F) c ∗ anyPrng (F := F) c) := rfl
theorem owed_first (c : Dev nD) : (dat m c).owed t0_0.castSucc = O₀ c := by
  show (if (t0_0.castSucc : Fin (cfg0.N + 1)).val = 0 then O₀ c else 0) = O₀ c
  exact if_pos rfl
theorem owed_last (c : Dev nD) : (dat m c).owed t0_0.succ = 0 := by
  show (if (t0_0.succ : Fin (cfg0.N + 1)).val = 0 then O₀ c else 0) = 0
  exact if_neg (by decide)

theorem owed_take (c : Dev nD) :
    ((dat m c).owesAt () t0_0.castSucc : sProp 𝕄) ⊢ iprop(∃ W, owes (c : Thread nD τ) (O₀ c) W) := by
  unfold Dat.owesAt Pipeline.owesWithin
  rw [owed_first]
  iintro ⟨%W, -, H⟩
  iexists W; iexact H

theorem owed_give (c : Dev nD) :
    iprop(∃ W, owes (c : Thread nD τ) (0 : CellTallies nD τ sig Unit) W) ⊢ ((dat m c).owesAt () t0_0.succ : sProp 𝕄) := by
  unfold Dat.owesAt Pipeline.owesWithin Dat.bound
  rw [owed_last]
  iintro ⟨%W, H⟩
  iexists W
  isplitr; · ipureintro; exact fun _ _ => Or.inl trivial
  iexact H

/-- The staged inputs hold the blocks of their arrays. -/
theorem before_in0 (c : Dev nD) (d) : (dat m c).before 0 t0_0 d = hidAt m c :=
  ((dat m c).before_in_eq_fetched 0 rfl (fun _ => rfl) (fun _ _ _ => rfl) (fun t => by obtain rfl := fin_N0 t; rfl) t0_0 d).trans rfl
theorem before_in1 (c : Dev nD) (d) : (dat m c).before 1 t0_0 d = wqAt m c :=
  ((dat m c).before_in_eq_fetched 1 rfl (fun _ => rfl) (fun _ _ _ => rfl) (fun t => by obtain rfl := fin_N0 t; rfl) t0_0 d).trans rfl
theorem before_in2 (c : Dev nD) (d) : (dat m c).before 2 t0_0 d = keyAt m c :=
  ((dat m c).before_in_eq_fetched 2 rfl (fun _ => rfl) (fun _ _ _ => rfl) (fun t => by obtain rfl := fin_N0 t; rfl) t0_0 d).trans rfl
theorem before_in3 (c : Dev nD) (d) : (dat m c).before 3 t0_0 d = valAt m c :=
  ((dat m c).before_in_eq_fetched 3 rfl (fun _ => rfl) (fun _ _ _ => rfl) (fun t => by obtain rfl := fin_N0 t; rfl) t0_0 d).trans rfl
theorem before_in4 (c : Dev nD) (d) : (dat m c).before 4 t0_0 d = woAt m c :=
  ((dat m c).before_in_eq_fetched 4 rfl (fun _ => rfl) (fun _ _ _ => rfl) (fun t => by obtain rfl := fin_N0 t; rfl) t0_0 d).trans rfl

theorem region_body (c : Dev nD) : BodyObligation (dat m c) (defs₀ (F := F)) Variants.none () Set.univ := fun t => by
  obtain rfl := fin_N0 t
  rw [bigSep_W0, bigSep_W0, dat_first, dat_last]
  rw [show (defs₀ (F := F)) .tc cfg0.body (cfg0.bodyArgs t0_0 (cfg0.slots t0_0)) = bodyAt0 t0_0 from rfl]
  dsimp only
  iintro ⟨⟨HX, Hs, Hp⟩, HO, ⟨%d0, H0⟩, ⟨%d1, H1⟩, ⟨%d2, H2⟩, ⟨%d3, H3⟩, ⟨%d4, H4⟩, ⟨%d5, H5⟩⟩
  unfold enterWith
  icases HX with ⟨⟨%K, #HR⟩, Hc, Ht, Hcr, #Hlev⟩
  ihave HO := (owed_take m c) $$ HO
  rw [before_in0, before_in1, before_in2, before_in3, before_in4]
  have hrun := body_run (keyAt m) (valAt m) (st0_0 t0_0) (hstage0_0 0) (st0_1 t0_0) (hstage0_1 0) (st0_2 t0_0) (hstage0_2 0)
    (st0_3 t0_0) (hstage0_3 0) (st0_4 t0_0) (hstage0_4 0) (st0_5 t0_0) (hstage0_5 0) (Memref.isWhole_whole _) K c
    (hidAt m c) (wqAt m c) (woAt m c) ((dat m c).before 5 t0_0 d5)
  unfold run at hrun
  iapply (hrun _) $$ [Hs HO H0 H1 H2 H3 H4 H5 Hc Ht Hcr]
  · unfold bodyPre wins
    isplitr; · iexact HR
    isplitr; · iexact Hlev
    isplitl [HO]; · iexact HO
    isplitl [Hc]; · iexact Hc
    isplitl [Ht]; · iexact Ht
    isplitl [Hcr]; · iexact Hcr
    isplitl [Hs]; · iexact Hs
    isplitl [H0]; · iexact H0
    isplitl [H1]; · iexact H1
    isplitl [H2]; · iexact H2
    isplitl [H3]; · iexact H3
    isplitl [H4]; · iexact H4
    iexact H5
  unfold bodyPost wins
  iintro ⟨Hz, HO, Hs, ⟨H0, H1, H2, H3, H4, H5⟩⟩
  isplitl [Hz Hs Hp]
  · isplitl [Hz]; · iexact Hz
    isplitl [Hs]; · iexact Hs
    iexact Hp
  isplitl [HO]; · iapply (owed_give m c); iexact HO
  isplitl [H0]; · iexact H0
  isplitl [H1]; · iexact H1
  isplitl [H2]; · iexact H2
  isplitl [H3]; · iexact H3
  isplitl [H4]; · iexact H4
  iexact H5

/-- After the region the result array holds what the body left. -/
theorem out_arr (c : Dev nD) : (dat m c).arrAt 5 cfg0.N = outAt m c :=
  (dat m c).arrAt_eq_of_after_last 5 t0_0 (by decide +kernel) _ (fun j => rfl)

end Cert.KernelIdeal.Ex

end
-- ==== Proof.Segs.lean ====
module

public import proofs.«01_k».proof.Proof.Region
public import Idealize.ShloMosaic.Lib.Pipeline.FrameTail

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m
  | ⟨_ + 1, h⟩ => absurd h (Nat.not_lt.2 (Nat.le_add_left _ _))

/-! ## A device's buffers along the program -/

/-- At launch, at the region's entry, at its exit, at the end. -/
abbrev W₀ (c : Dev nD) : Valuation τ sig (Elt F) := fun b => m (c, b)
abbrev W₁ (c : Dev nD) : Valuation τ sig (Elt F) := StableHlo.after hostOps0 (W₀ m c)
abbrev W₂ (c : Dev nD) : Valuation τ sig (Elt F) := Pipeline.afterRegion (dat m c) (W₁ m c)
abbrev W₃ (c : Dev nD) : Valuation τ sig (Elt F) := StableHlo.after hostOps1 (W₂ m c)

theorem kitP : Pipeline.PLaunchFacts (nD := nD) (τ := τ) (pcfgs (F := F)) 0 := launch0.toP

/-- The buffers that are no array of the region. -/
abbrev others : Finset (DevRef τ sig) := ucRefs τ sig \ Pipeline.arrRefs (τ := τ) spec0

theorem arrs_sub : Pipeline.arrRefs (τ := τ) spec0 ⊆ ucRefs τ sig := by decide

theorem others_keep (c : Dev nD) : ∀ b ∈ others \ (∅ : Finset (DevRef τ sig)), W₂ m c b = W₁ m c b := by
  intro b hb
  rw [Finset.sdiff_empty, Finset.mem_sdiff] at hb
  unfold W₂ Pipeline.afterRegion
  rw [dif_neg]
  rintro ⟨w, rfl⟩
  refine hb.2 ?_
  unfold Pipeline.arrRefs
  exact Finset.mem_map.mpr ⟨_, Finset.mem_image.mpr ⟨w, Finset.mem_univ _, rfl⟩, rfl⟩

/-! ## The region's ghost state -/

/-- What a device keeps from launch for the exchange: its barrier open, the right to open its five other cells, its
    tokens and credits. -/
def fromLaunch (c : Dev nD) : sProp 𝕄 :=
  iprop((∃ K, recs (keyAt m) (valAt m) K) ∗ atPos ER (barCell c) 0 ∅ 0
    ∗ (openTok ER (sc0 c) ∗ openTok ER (sc1 c) ∗ openTok ER (sc2 c) ∗ openTok ER (rc0 c) ∗ openTok ER (rc1 c))
    ∗ payToks (F := F) c ∗ creds (F := F) c)

theorem own_counters (c : Dev nD) : (Pipeline.ownSems0 osem c : sProp 𝕄)
    = iprop(semVal (sc0 c) 0 ∗ semVal (sc1 c) 0 ∗ semVal (sc2 c) 0 ∗ semVal (rc0 c) 0 ∗ semVal (rc1 c) 0) := by
  unfold Pipeline.ownSems0
  exact bigSep_univ_eq_bigSepL [(0 : Fin 5), 1, 2, 3, 4] (by decide) (by decide) _

theorem open_one (K : GSem nD τ sig → ℕ) (c : Dev nD) (k : Fin 6) :
    iprop(recs (keyAt m) (valAt m) K ∗ openTok ER (kcell (c, k)) ∗ semVal (kcell (c, k)) 0)
      ⊢ (|={Set.univ}=> iprop(atPos ER (kcell (c, k)) 0 ∅ 0 ∗ reached ER (kcell (c, k)) 0) : sProp 𝕄) := by
  iintro ⟨#HR, Ho, Hs⟩
  iapply (Rounds.cell_open ER (exRd (keyAt m) (valAt m)) (g := kcell (c, k)) (Set.mem_univ (K (kcell (c, k)))))
  isplitr; · iapply (recs_inv (keyAt m) (valAt m) K c k); iexact HR
  isplitl [Ho] <;> iassumption

theorem region_open (c : Dev nD) : iprop(fromLaunch m c ∗ Pipeline.ownSems0 osem c ∗ levAts L lv) ⊢ (|={Set.univ}=> enterWith m c : sProp 𝕄) := by
  rw [own_counters]
  unfold fromLaunch enterWith cellsOpen
  iintro ⟨⟨⟨%K, #HR⟩, HaB, ⟨Ho0, Ho1, Ho2, Hq0, Hq1⟩, Ht, Hc⟩, ⟨Hs0, Hs1, Hs2, Hr0, Hr1⟩, #Hlev⟩
  imod (open_one m K c 1) $$ [Ho0 Hs0] with ⟨Ha0, #Hp0⟩
  · isplitr; · iexact HR
    isplitl [Ho0]; · iexact Ho0
    iexact Hs0
  imod (open_one m K c 2) $$ [Ho1 Hs1] with ⟨Ha1, #Hp1⟩
  · isplitr; · iexact HR
    isplitl [Ho1]; · iexact Ho1
    iexact Hs1
  imod (open_one m K c 3) $$ [Ho2 Hs2] with ⟨Ha2, #Hp2⟩
  · isplitr; · iexact HR
    isplitl [Ho2]; · iexact Ho2
    iexact Hs2
  imod (open_one m K c 4) $$ [Hq0 Hr0] with ⟨Hb0, #Hv0⟩
  · isplitr; · iexact HR
    isplitl [Hq0]; · iexact Hq0
    iexact Hr0
  imod (open_one m K c 5) $$ [Hq1 Hr1] with ⟨Hb1, #Hv1⟩
  · isplitr; · iexact HR
    isplitl [Hq1]; · iexact Hq1
    iexact Hr1
  imodintro
  isplitr; · iexists K; iexact HR
  isplitl [HaB Ha0 Ha1 Ha2 Hb0 Hb1]
  · isplitl [HaB]; · iexact HaB
    isplitl [Ha0 Ha1 Ha2]
    · isplitl [Ha0]; · iexact Ha0
      isplitl [Ha1]; · iexact Ha1
      iexact Ha2
    isplitl [Hb0 Hb1]
    · isplitl [Hb0]; · iexact Hb0
      iexact Hb1
    isplitr
    · isplitr; · iexact Hp0
      isplitr; · iexact Hp1
      iexact Hp2
    isplitr; · iexact Hv0
    iexact Hv1
  isplitl [Ht]; · iexact Ht
  isplitl [Hc]; · iexact Hc
  iexact Hlev

theorem region_in (c : Dev nD) :
    iprop(Pipeline.scopedRest spec0 c ∗ (∃ r, prngReg c r) ∗ StableHlo.held (c.tc : Thread nD τ) ∅ (W₁ m c) ∗ enterWith m c)
      ⊢ ((dat m c).Φ 0 : sProp 𝕄) := by
  rw [show (dat m c).Φ 0 = iprop(enterWith m c ∗ anyScr (F := F) c ∗ anyPrng (F := F) c) from rfl, scopedRest0_eq]
  unfold anyScr anyPrng
  iintro ⟨Hs, Hp, -, HX⟩
  isplitl [HX]; · iexact HX
  isplitl [Hs]; · iexact Hs
  iexact Hp

theorem region_out (c : Dev nD) :
    ((dat m c).Φ (Fin.last cfg0.N) : sProp 𝕄)
      ⊢ iprop(Pipeline.scopedRest spec0 c ∗ (∃ r, prngReg c r) ∗ StableHlo.held (c.tc : Thread nD τ) ∅ (W₂ m c)
        ∗ Pipeline.ownSems0 osem c ∗ semVal (barCell c) 0) := by
  rw [show (dat m c).Φ (Fin.last cfg0.N) = iprop(cellsZero (F := F) c ∗ anyScr (F := F) c ∗ anyPrng (F := F) c) from rfl, scopedRest0_eq,
    own_counters]
  unfold anyScr anyPrng cellsZero
  iintro ⟨⟨HB, ⟨H0, H1, H2⟩, H3, H4⟩, Hs, Hp⟩
  isplitl [Hs]; · iexact Hs
  isplitl [Hp]; · iexact Hp
  isplitr; · unfold StableHlo.held; rw [BI.bigSep_empty]; iempintro
  isplitr [HB]
  · isplitl [H0]; · iexact H0
    isplitl [H1]; · iexact H1
    isplitl [H2]; · iexact H2
    isplitl [H3]; · iexact H3
    iexact H4
  iexact HB

theorem O₀_where (c : Dev nD) (g : GSem nD τ sig) (u : Unit) (h : 0 < O₀ c g u) :
    ∃ d : Dev nD, g = barCell d ∨ g = rc0 d ∨ g = rc1 d := by
  unfold O₀ at h
  rcases Nat.add_pos_iff_pos_or_pos.mp (show 0 < (_ + _ : ℕ) from h) with h | h
  · rcases Nat.add_pos_iff_pos_or_pos.mp (show 0 < (_ + _ : ℕ) from h) with h | h
    · rcases Nat.add_pos_iff_pos_or_pos.mp (show 0 < (_ + _ : ℕ) from h) with h | h
      · obtain ⟨d, h⟩ := sendsOwed_pos c g u h
        exact ⟨d, .inr h⟩
      · exact ⟨_, .inl (tallyAt_pos h)⟩
    · exact ⟨_, .inl (tallyAt_pos h)⟩
  · exact ⟨_, .inl (tallyAt_pos h)⟩

theorem stage_low : ∀ (w : Fin cfg0.W) (s : Fin (cfg0.win w).nbuf), (SemLoc.dma ((cfg0.win w).sem s) : SemLoc sig) ≠ .dma rS0 ∧ (SemLoc.dma ((cfg0.win w).sem s) : SemLoc sig) ≠ .dma rS1 := by
  decide

theorem cut : Pipeline.LevelCutOwed (pcfgs (F := F)) adm (pdats m) () L lv 0 (fun _ => 0) where
  hι c w s := by rw [L_tc]; exact Finset.mem_singleton_self _
  hιb c w s := by
    dsimp only [lv]
    rw [if_neg (dma_ne_reg _ _), if_neg (fun h => h.elim (stage_low w s).1 (stage_low w s).2)]
  hD c t g i h := by
    have e : (pdats (F := F) m 0 c).owed t = if t.val = 0 then O₀ c else 0 := rfl
    rw [e] at h
    split at h
    · obtain ⟨d, rfl | rfl | rfl⟩ := O₀_where c g i h
      · exact ⟨by rw [L_tc]; exact Finset.mem_singleton_self _, by dsimp only [lv]; rw [if_pos rfl]; decide⟩
      · exact ⟨by rw [L_tc]; exact Finset.mem_singleton_self _, by dsimp only [lv]; rw [if_neg (dma_ne_reg _ _), if_pos (.inl rfl)]; decide⟩
      · exact ⟨by rw [L_tc]; exact Finset.mem_singleton_self _, by dsimp only [lv]; rw [if_neg (dma_ne_reg _ _), if_pos (.inr rfl)]; decide⟩
    · exact absurd h (Nat.lt_irrefl 0)

theorem due_first (c : Dev nD) : (pdats m 0 c).owed 0 = 0 + O₀ c := by
  rw [zero_add]
  show (if ((0 : Fin (cfg0.N + 1)).val = 0) then O₀ c else 0) = O₀ c
  exact if_pos rfl
theorem due_last (c : Dev nD) : (pdats m 0 c).owed (Fin.last _) = 0 := by
  show (if (Fin.last cfg0.N).val = 0 then O₀ c else 0) = 0
  exact if_neg (by decide)

set_option backward.isDefEq.respectTransparency.types false in
/-- The region. -/
def theRegion : Pipeline.RegionSeg (pcfgs (F := F)) adm (pdats m) () defs₀ Variants.none L lv 0 :=
  Pipeline.RegionSeg.ofTalk (pcfgs (F := F)) adm (pdats m) () defs₀ Variants.none L lv 0 osem (by decide : Pipeline.OwnSemFacts spec0 osem)
    ∅ others (Finset.empty_subset _) kitP rfl (fun c => (region_body m c).loose)
    (fun _ => 0) O₀ (due_first m) (due_last m) (fun _ => rfl) (fun c w => ite_self _)
    (W₁ m) (W₂ m) (others_keep m)
    (fromLaunch m) (fun c => semVal (barCell c) 0) (enterWith m) (fun c => semVal (barCell c) 0)
    (region_open m) (region_in m) (region_out m) (fun c => by iintro H; imodintro; iexact H)
    (fun _ => 0) (cut m) (fun _ => iprop(emp))
    (fun c w => rfl) (fun c w => (Pipeline.afterRegion_arr (dat m c) (W₁ m c) winFacts0.arr_inj w).symm)

/-- What rides beside the buffers before the region and after it. -/
def rideIn (c : Dev nD) : sProp 𝕄 := iprop(fromLaunch m c ∗ anyPrng (F := F) c ∗ ∃ W, owes (c : Thread nD τ) (O₀ c) W)
def rideOut (c : Dev nD) : sProp 𝕄 := iprop(semVal (barCell c) 0 ∗ ∃ W, owes (c : Thread nD τ) (0 : CellTallies nD τ sig Unit) W)

theorem held_cut (c : Dev nD) (W : Valuation τ sig (Elt F)) : (StableHlo.held (c : Thread nD τ) (ucRefs τ sig) W : sProp 𝕄)
    = iprop(StableHlo.held (c : Thread nD τ) (Pipeline.arrRefs (τ := τ) spec0) W ∗ StableHlo.held (c : Thread nD τ) others W) :=
  StableHlo.held_sub_split (c : Thread nD τ) arrs_sub W

theorem region_pre (c : Dev nD) : iprop(StableHlo.held (c : Thread nD τ) (ucRefs τ sig) (W₁ m c) ∗ rideIn m c) ⊢ (theRegion m).pre c := by
  show _ ⊢ iprop(StableHlo.held (c.tc : Thread nD τ) (Pipeline.arrRefs (τ := τ) spec0) (W₁ m c) ∗ (∃ r, prngReg c r)
    ∗ (StableHlo.held (c.tc : Thread nD τ) others (W₁ m c) ∗ emp) ∗ fromLaunch m c ∗ ∃ Wd, owes (c : Thread nD τ) (0 + O₀ c) Wd)
  rw [held_cut, zero_add]
  unfold rideIn anyPrng
  iintro ⟨⟨Ha, Ho⟩, Hl, Hp, HO⟩
  isplitl [Ha]; · iexact Ha
  isplitl [Hp]; · iexact Hp
  isplitl [Ho]
  · isplitl [Ho]; · iexact Ho
    iempintro
  isplitl [Hl]; · iexact Hl
  iexact HO

theorem region_post (c : Dev nD) : (theRegion m).post c ⊢ iprop(StableHlo.held (c : Thread nD τ) (ucRefs τ sig) (W₂ m c) ∗ rideOut (F := F) c) := by
  show iprop(StableHlo.held (c.tc : Thread nD τ) (Pipeline.arrRefs (τ := τ) spec0) (W₂ m c) ∗ (∃ r, prngReg c r)
    ∗ (StableHlo.held (c.tc : Thread nD τ) others (W₂ m c) ∗ emp) ∗ semVal (barCell c) 0 ∗ ∃ Wd, owes (c : Thread nD τ) (0 : CellTallies nD τ sig Unit) Wd) ⊢ _
  rw [held_cut]
  unfold rideOut
  iintro ⟨Ha, -, ⟨Ho, -⟩, Hb, HO⟩
  isplitl [Ha Ho]
  · isplitl [Ha] <;> iassumption
  isplitl [Hb] <;> iassumption

/-- The host lines before and after the region. -/
def lineIn : Pipeline.HostSeg (Name := ℕ) (U := UU) (pcfgs (F := F)) defs₀ Variants.none L lv :=
  Pipeline.HostSeg.ofOps _ _ _ _ _ (ucRefs τ sig) hostOps0
    (fun op h => Pipeline.sub_ucRefs op ((List.forall_iff_forall_mem.mp hostOps0_sub) op h))
    (List.forall_iff_forall_mem.mp hostOps0_fresh) (W₀ m) (rideIn m)
def lineOut : Pipeline.HostSeg (Name := ℕ) (U := UU) (pcfgs (F := F)) defs₀ Variants.none L lv :=
  Pipeline.HostSeg.ofOps _ _ _ _ _ (ucRefs τ sig) hostOps1
    (fun op h => Pipeline.sub_ucRefs op ((List.forall_iff_forall_mem.mp hostOps1_sub) op h))
    (List.forall_iff_forall_mem.mp hostOps1_fresh) (W₂ m) (rideOut (F := F))

def segs : List (Pipeline.Seg (pcfgs (F := F)) adm (pdats m) () defs₀ Variants.none L lv) :=
  [.host (lineIn m), .region (theRegion m), .host (lineOut m)]

theorem main_eq (c : Dev nD) : main (F := F) c = Pipeline.Seg.run (segs m) :=
  main_segs adm (pdats m) () Variants.none L lv (lineIn m) (lineOut m) (theRegion m) rfl rfl c

end Cert.KernelIdeal.Ex

end
-- ==== Proof.Mint.lean ====
module

public import proofs.«01_k».proof.Proof.Segs
public import Idealize.ShloMosaic.Lib.Quiescent

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The cells and the tokens minted at launch -/

theorem osem_inj : Function.Injective osem := by decide
theorem osem_ne_bar : ∀ k : Fin 5, osem k ≠ .reg bS := by decide

def barEmb : Dev nD ↪ GSem nD τ sig := ⟨barCell, fun _ _ h => congrArg (fun g : GSem nD τ sig => g.1.1) h⟩
def ownEmb : Dev nD × Fin 5 ↪ GSem nD τ sig :=
  ⟨fun p => ((p.1 : Thread nD τ), osem p.2), fun _ _ h =>
    Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem cells_apart : Disjoint barCells ownCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The semaphore of a cell by its number. -/
abbrev ksem : Fin 6 → SemLoc sig := fun
  | 0 => .reg bS | 1 => .dma sS0 | 2 => .dma sS1 | 3 => .dma sS2 | 4 => .dma rS0 | 5 => .dma rS1
theorem ksem_inj : Function.Injective ksem := by decide
theorem kcell_eq (c : Dev nD) (k : Fin 6) : kcell (c, k) = ((c : Thread nD τ), ksem k) := by
  fin_cases k <;> rfl

theorem kcell_mem (p : Dev nD × Fin 6) : kcell p ∈ barCells ∪ ownCells := by
  obtain ⟨c, k⟩ := p
  fin_cases k
  · exact Finset.mem_union_left _ (Finset.mem_map_of_mem barEmb (Finset.mem_univ c))
  · exact Finset.mem_union_right _ (Finset.mem_map_of_mem ownEmb (Finset.mem_univ (c, (0 : Fin 5))))
  · exact Finset.mem_union_right _ (Finset.mem_map_of_mem ownEmb (Finset.mem_univ (c, (1 : Fin 5))))
  · exact Finset.mem_union_right _ (Finset.mem_map_of_mem ownEmb (Finset.mem_univ (c, (2 : Fin 5))))
  · exact Finset.mem_union_right _ (Finset.mem_map_of_mem ownEmb (Finset.mem_univ (c, (3 : Fin 5))))
  · exact Finset.mem_union_right _ (Finset.mem_map_of_mem ownEmb (Finset.mem_univ (c, (4 : Fin 5))))

/-- For each payer, its token at every cell; the few that name a duty are used. -/
def tokEmb : Dev nD × (Dev nD × Fin 6) ↪ GSem nD τ sig × ℕ × Fin 4 :=
  ⟨fun x => (kcell x.2, 0, x.1), fun x y h => by
    obtain ⟨d, c, k⟩ := x
    obtain ⟨d', c', k'⟩ := y
    have h1 : kcell (c, k) = kcell (c', k') := congrArg (fun t : GSem nD τ sig × ℕ × Fin 4 => t.1) h
    have h2 : d = d' := congrArg (fun t : GSem nD τ sig × ℕ × Fin 4 => t.2.2) h
    rw [kcell_eq, kcell_eq] at h1
    have h3 : c = c' := congrArg (fun g : GSem nD τ sig => g.1.1) h1
    have h4 : k = k' := ksem_inj (congrArg Prod.snd h1)
    rw [h2, h3, h4]⟩
def allToks : Finset (GSem nD τ sig × ℕ × Fin 4) := Finset.univ.map tokEmb

/-- A payer's tokens, cell by cell. -/
def tokRow (d : Dev nD) (c : Dev nD) : sProp 𝕄 :=
  iprop(dutyTok ER (barCell c) 0 d ∗ dutyTok ER (sc0 c) 0 d ∗ dutyTok ER (sc1 c) 0 d ∗ dutyTok ER (sc2 c) 0 d
    ∗ dutyTok ER (rc0 c) 0 d ∗ dutyTok ER (rc1 c) 0 d)

theorem toks_by_payer : bigSep allToks (fun x => (dutyTok ER x.1 x.2.1 x.2.2 : sProp 𝕄))
    = bigSep Finset.univ fun d : Dev nD => iprop(tokRow (F := F) d 0 ∗ tokRow (F := F) d 1 ∗ tokRow (F := F) d 2 ∗ tokRow (F := F) d 3) := by
  unfold allToks
  rw [bigSep_map, bigSep_univ_prod]
  refine bigSep_congr fun d _ => ?_
  rw [bigSep_univ_prod]
  have hrow (c : Dev nD) : (bigSep Finset.univ fun k : Fin 6 => (dutyTok ER (tokEmb (d, (c, k))).1 (tokEmb (d, (c, k))).2.1 (tokEmb (d, (c, k))).2.2 : sProp 𝕄))
      = tokRow d c := bigSep_univ_eq_bigSepL [(0 : Fin 6), 1, 2, 3, 4, 5] (by decide) (by decide) _
  rw [bigSep_congr fun c _ => hrow c]
  exact bigSep_univ_eq_bigSepL [(0 : Fin 4), 1, 2, 3] (by decide) (by decide) _

theorem dev_cases : ∀ d : Dev nD, d = 0 ∨ d = 1 ∨ d = 2 ∨ d = 3 := by decide

theorem pay_from (d : Dev nD) :
    iprop(tokRow (F := F) d 0 ∗ tokRow (F := F) d 1 ∗ tokRow (F := F) d 2 ∗ tokRow (F := F) d 3) ⊢ payToks (F := F) d := by
  unfold tokRow payToks
  rcases dev_cases d with rfl | rfl | rfl | rfl
  · iintro ⟨⟨-, Hs0, Hs1, Hs2, -, -⟩, ⟨Hb1, -, -, -, Hr1, -⟩, ⟨Hb2, -, -, -, Hr2, -⟩, ⟨Hb3, -, -, -, Hr3, -⟩⟩
    isplitl [Hb1 Hb2 Hb3]
    · isplitl [Hb1]; · iexact Hb1
      isplitl [Hb2]; · iexact Hb2
      iexact Hb3
    rw [if_pos rfl]
    isplitl [Hs0 Hs1 Hs2]
    · isplitl [Hs0]; · iexact Hs0
      isplitl [Hs1]; · iexact Hs1
      iexact Hs2
    isplitl [Hr1]; · iexact Hr1
    isplitl [Hr2]; · iexact Hr2
    iexact Hr3
  · iintro ⟨⟨Hb0, -, -, -, -, Hr0⟩, ⟨-, Hs0, Hs1, Hs2, -, -⟩, ⟨Hb2, -, -, -, -, Hr2⟩, ⟨Hb3, -, -, -, -, Hr3⟩⟩
    isplitl [Hb0 Hb2 Hb3]
    · isplitl [Hb2]; · iexact Hb2
      isplitl [Hb3]; · iexact Hb3
      iexact Hb0
    rw [if_neg (by decide), if_pos rfl]
    isplitl [Hs0 Hs1 Hs2]
    · isplitl [Hs0]; · iexact Hs0
      isplitl [Hs1]; · iexact Hs1
      iexact Hs2
    isplitl [Hr0]; · iexact Hr0
    isplitl [Hr2]; · iexact Hr2
    iexact Hr3
  · iintro ⟨⟨Hb0, -⟩, ⟨Hb1, -⟩, -, ⟨Hb3, -⟩⟩
    isplitl [Hb0 Hb1 Hb3]
    · isplitl [Hb3]; · iexact Hb3
      isplitl [Hb0]; · iexact Hb0
      iexact Hb1
    rw [if_neg (by decide), if_neg (by decide)]
    iempintro
  · iintro ⟨⟨Hb0, -⟩, ⟨Hb1, -⟩, ⟨Hb2, -⟩, -⟩
    isplitl [Hb0 Hb1 Hb2]
    · isplitl [Hb0]; · iexact Hb0
      isplitl [Hb1]; · iexact Hb1
      iexact Hb2
    rw [if_neg (by decide), if_neg (by decide)]
    iempintro

/-! ## The credit of what is owed -/

theorem bar_ne_rc0 (c d : Dev nD) : barCell c ≠ rc0 d := fun h => dma_ne_reg rS0 bS (congrArg Prod.snd h).symm
theorem bar_ne_rc1 (c d : Dev nD) : barCell c ≠ rc1 d := fun h => dma_ne_reg rS1 bS (congrArg Prod.snd h).symm
theorem rc_ne (c d : Dev nD) : rc0 c ≠ rc1 d := fun h => r1_ne_r0 (congrArg Prod.snd h).symm

theorem unit_at (f : Dev nD → GSem nD τ sig) (hf : ∀ c, (f c).1.1 = c) (c d : Dev nD) (n : ℕ) :
    (tallyAt (f d) () n : CellTallies nD τ sig Unit) (f c) () = if c = d then n else 0 := by
  rw [tallyAt_apply]
  by_cases h : c = d
  · subst h; rw [if_pos ⟨rfl, rfl⟩, if_pos rfl]
  · rw [if_neg h, if_neg]
    rintro ⟨h1, -⟩
    exact h (by rw [← hf c, ← hf d, h1])

theorem none_at {g g' : GSem nD τ sig} (h : g' ≠ g) (n : ℕ) : (tallyAt g () n : CellTallies nD τ sig Unit) g' () = 0 := by
  rw [tallyAt_apply, if_neg fun hh => h hh.1]

theorem owed_bar (d c : Dev nD) : O₀ d (barCell c) ()
    = (if c = d + 3 then 1 else 0) + (if c = d + 2 then 1 else 0) + (if c = d + 1 then 1 else 0) := by
  have hs : sendsOwed d (barCell c) () = 0 := by
    by_contra h
    obtain ⟨e, h | h⟩ := sendsOwed_pos d (barCell c) () (Nat.pos_of_ne_zero h)
    · exact bar_ne_rc0 c e h
    · exact bar_ne_rc1 c e h
  unfold O₀
  show sendsOwed d (barCell c) () + (tallyAt (barCell (d + 3)) () 1 : CellTallies nD τ sig Unit) (barCell c) ()
    + (tallyAt (barCell (d + 2)) () 1 : CellTallies nD τ sig Unit) (barCell c) () + (tallyAt (barCell (d + 1)) () 1 : CellTallies nD τ sig Unit) (barCell c) () = _
  rw [hs, unit_at barCell (fun _ => rfl), unit_at barCell (fun _ => rfl), unit_at barCell (fun _ => rfl), Nat.zero_add]

theorem sum_bar : ∀ c : Dev nD, (∑ d : Dev nD, ((if c = d + 3 then 1 else 0) + (if c = d + 2 then 1 else 0) + (if c = d + 1 then 1 else 0))) = 3 := by
  decide

theorem owed_rc0 (d c : Dev nD) (hc : c ≠ 0) : O₀ d (rc0 c) () = if d = 0 then N else 0 := by
  unfold O₀
  show sendsOwed d (rc0 c) () + (tallyAt (barCell (d + 3)) () 1 : CellTallies nD τ sig Unit) (rc0 c) ()
    + (tallyAt (barCell (d + 2)) () 1 : CellTallies nD τ sig Unit) (rc0 c) () + (tallyAt (barCell (d + 1)) () 1 : CellTallies nD τ sig Unit) (rc0 c) () = _
  rw [none_at (bar_ne_rc0 _ _).symm, none_at (bar_ne_rc0 _ _).symm, none_at (bar_ne_rc0 _ _).symm]
  simp only [Nat.add_zero]
  unfold sendsOwed
  by_cases h0 : d = 0
  · rw [if_pos h0, if_pos h0]
    show (tallyAt (rc0 3) () N : CellTallies nD τ sig Unit) (rc0 c) () + (tallyAt (rc0 2) () N : CellTallies nD τ sig Unit) (rc0 c) ()
      + (tallyAt (rc0 1) () N : CellTallies nD τ sig Unit) (rc0 c) () = N
    rw [unit_at rc0 (fun _ => rfl), unit_at rc0 (fun _ => rfl), unit_at rc0 (fun _ => rfl)]
    fin_cases c
    · exact absurd rfl hc
    all_goals simp
  · rw [if_neg h0, if_neg h0]
    by_cases h1 : d = 1
    · rw [if_pos h1]
      show (tallyAt (rc1 3) () N : CellTallies nD τ sig Unit) (rc0 c) () + (tallyAt (rc1 2) () N : CellTallies nD τ sig Unit) (rc0 c) ()
        + (tallyAt (rc1 0) () N : CellTallies nD τ sig Unit) (rc0 c) () = 0
      rw [none_at (rc_ne _ _), none_at (rc_ne _ _), none_at (rc_ne _ _)]
    · rw [if_neg h1]; rfl

theorem owed_rc1 (d c : Dev nD) (hc : c ≠ 1) : O₀ d (rc1 c) () = if d = 1 then N else 0 := by
  unfold O₀
  show sendsOwed d (rc1 c) () + (tallyAt (barCell (d + 3)) () 1 : CellTallies nD τ sig Unit) (rc1 c) ()
    + (tallyAt (barCell (d + 2)) () 1 : CellTallies nD τ sig Unit) (rc1 c) () + (tallyAt (barCell (d + 1)) () 1 : CellTallies nD τ sig Unit) (rc1 c) () = _
  rw [none_at (bar_ne_rc1 _ _).symm, none_at (bar_ne_rc1 _ _).symm, none_at (bar_ne_rc1 _ _).symm]
  simp only [Nat.add_zero]
  unfold sendsOwed
  by_cases h0 : d = 0
  · rw [if_pos h0, if_neg (by rw [h0]; decide)]
    show (tallyAt (rc0 3) () N : CellTallies nD τ sig Unit) (rc1 c) () + (tallyAt (rc0 2) () N : CellTallies nD τ sig Unit) (rc1 c) ()
      + (tallyAt (rc0 1) () N : CellTallies nD τ sig Unit) (rc1 c) () = 0
    rw [none_at (rc_ne _ _).symm, none_at (rc_ne _ _).symm, none_at (rc_ne _ _).symm]
  · rw [if_neg h0]
    by_cases h1 : d = 1
    · rw [if_pos h1, if_pos h1]
      show (tallyAt (rc1 3) () N : CellTallies nD τ sig Unit) (rc1 c) () + (tallyAt (rc1 2) () N : CellTallies nD τ sig Unit) (rc1 c) ()
        + (tallyAt (rc1 0) () N : CellTallies nD τ sig Unit) (rc1 c) () = N
      rw [unit_at rc1 (fun _ => rfl), unit_at rc1 (fun _ => rfl), unit_at rc1 (fun _ => rfl)]
      fin_cases c
      · simp
      · exact absurd rfl hc
      all_goals simp
    · rw [if_neg h1, if_neg h1]; rfl

theorem credit_of (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem credit_bar (c : Dev nD) : tallyOn (barCell c) (launchCredit (Pipeline.owing O₀) 0 (barCell c)) = (tallyAt (barCell c) () 3 : CellTallies nD τ sig Unit) :=
  credit_of _ _ (by rw [Finset.sum_congr rfl fun d _ => owed_bar d c]; exact sum_bar c)
theorem credit_rc0 (c : Dev nD) (hc : c ≠ 0) : tallyOn (rc0 c) (launchCredit (Pipeline.owing O₀) 0 (rc0 c)) = (tallyAt (rc0 c) () N : CellTallies nD τ sig Unit) :=
  credit_of _ _ (by rw [Finset.sum_congr rfl fun d _ => owed_rc0 d c hc, Finset.sum_ite_eq' Finset.univ (0 : Dev nD) fun _ => N, if_pos (Finset.mem_univ _)])
theorem credit_rc1 (c : Dev nD) (hc : c ≠ 1) : tallyOn (rc1 c) (launchCredit (Pipeline.owing O₀) 0 (rc1 c)) = (tallyAt (rc1 c) () N : CellTallies nD τ sig Unit) :=
  credit_of _ _ (by rw [Finset.sum_congr rfl fun d _ => owed_rc1 d c hc, Finset.sum_ite_eq' Finset.univ (1 : Dev nD) fun _ => N, if_pos (Finset.mem_univ _)])

theorem creds_from (c : Dev nD) : (Pipeline.launchCred O₀ c : sProp 𝕄) ⊢ creds (F := F) c := by
  unfold Pipeline.launchCred creds
  rw [bigSep_univ_at _ (SemLoc.reg bS), credit_bar]
  refine sep_mono_right ?_
  rw [BI.bigSep_erase (i := SemLoc.dma rS0) (Finset.mem_erase.mpr ⟨dma_ne_reg _ _, Finset.mem_univ _⟩)]
  refine BIClass.sep_mono ?_ ?_
  · split
    · exact Laws.affine
    · next h => rw [credit_rc0 c h]
  · split
    · exact Laws.affine
    · next h =>
      rw [← credit_rc1 c h]
      exact bigSep_elim (Finset.mem_erase.mpr ⟨r1_ne_r0, Finset.mem_erase.mpr ⟨dma_ne_reg _ _, Finset.mem_univ _⟩⟩)

end Cert.KernelIdeal.Ex

end
-- ==== Proof.Launch.lean ====
module

public import proofs.«01_k».proof.Proof.Mint

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

theorem none_all {I : Type} (s : Finset I) : bigSep s (fun _ => (iprop(emp) : sProp 𝕄)) = iprop(emp) := BI.bigSep_emp_const s

theorem pair_all {Φ Ψ : Dev nD → sProp 𝕄} :
    iprop(bigSep Finset.univ Φ ∗ bigSep Finset.univ Ψ) ⊢ bigSep Finset.univ fun c => iprop(Φ c ∗ Ψ c) :=
  Entails.of_eq (bigSep_sep' _ _ _).symm
theorem unpair_all {Φ Ψ : Dev nD → sProp 𝕄} :
    bigSep Finset.univ (fun c => iprop(Φ c ∗ Ψ c)) ⊢ iprop(bigSep Finset.univ Φ ∗ bigSep Finset.univ Ψ) :=
  Entails.of_eq (bigSep_sep' _ _ _)

/-! ## The ghost state of the whole mesh, split over the devices -/

/-- The minted ghost state: the pipeline's and the exchange's. -/
def u₀ : UU :=
  (initOf (Pipeline.cells (Pipeline.pin (pcfgs (F := F)) adm) cellOf_inj) (Pipeline.launchToks (Pipeline.pin (pcfgs (F := F)) adm) cellOf_inj),
    launchOf barCells ownCells allToks)

/-- Device 0 is given the exchange's ghost state; the start of the run shares it out. -/
def G (c : Dev nD) : sProp 𝕄 := if c = 0 then BI.own (ER (launchOf barCells ownCells allToks)) else iprop(emp)

theorem G_all : bigSep Finset.univ (G (F := F)) = (BI.own (ER (launchOf barCells ownCells allToks)) : sProp 𝕄) := by
  rw [bigSep_univ_at _ (0 : Dev nD), BI.bigSep_congr (s := Finset.univ.erase (0 : Dev nD)) (Φ := G (F := F)) (Ψ := fun _ => (iprop(emp) : sProp 𝕄))
    (fun c hc => if_neg (Finset.ne_of_mem_erase hc)), none_all]
  unfold G
  rw [if_pos rfl]
  exact BI.equiv_iff.mp sep_emp

theorem counters0 (c : Dev nD) : (unscopedSems0 c : sProp 𝕄) = semVal (barCell c) 0 := by
  unfold unscopedSems0
  rw [show (Finset.univ.filter fun sm : SemLoc sig => ¬ sm.isScoped .tc) = {SemLoc.reg bS} from by decide, BI.bigSep_singleton]

/-- What does not depend on the minting. -/
def seat (c : Dev nD) : sProp 𝕄 :=
  iprop(StableHlo.held (c : Thread nD τ) (ucRefs τ sig) (W₀ m c) ∗ creds (F := F) c ∗ anyPrng (F := F) c
    ∗ owes (c : Thread nD τ) (O₀ c) ∅)

/-- What the minting gives a device. -/
def share (c : Dev nD) : sProp 𝕄 :=
  iprop(atPos ER (barCell c) 0 ∅ 0
    ∗ (openTok ER (sc0 c) ∗ openTok ER (sc1 c) ∗ openTok ER (sc2 c) ∗ openTok ER (rc0 c) ∗ openTok ER (rc1 c)) ∗ payToks (F := F) c)

def T₀ (c : Dev nD) : sProp 𝕄 := iprop(StableHlo.held (c : Thread nD τ) (ucRefs τ sig) (W₀ m c) ∗ rideIn m c)
def Tₙ (c : Dev nD) : sProp 𝕄 := iprop(StableHlo.held (c : Thread nD τ) (ucRefs τ sig) (W₃ m c) ∗ semVal (barCell c) 0)

theorem seated (κ : GSem nD τ sig → ℕ) (c : Dev nD) :
    iprop(recs (keyAt m) (valAt m) κ ∗ share (F := F) c ∗ seat m c) ⊢ (T₀ m c : sProp 𝕄) := by
  unfold share seat T₀ rideIn fromLaunch
  iintro ⟨#HR, ⟨Ha, Ho, Ht⟩, Hh, Hc, Hp, HO⟩
  isplitl [Hh]; · iexact Hh
  isplitl [Ha Ho Ht Hc]
  · isplitr; · iexists κ; iexact HR
    isplitl [Ha]; · iexact Ha
    isplitl [Ho]; · iexact Ho
    isplitl [Ht]; · iexact Ht
    iexact Hc
  isplitl [Hp]; · iexact Hp
  iexists ∅; iexact HO

/-- Every cell's invariant, from the invariants of the two sets of cells. -/
theorem recs_from (κ : GSem nD τ sig → ℕ) :
    iprop((bigSep (barCells ∪ ownCells) fun g => cellInv ER (exRd (keyAt m) (valAt m)) (κ g) g) ∗ bigSep barCells fun g => reached ER g 0)
      ⊢ (recs (keyAt m) (valAt m) κ : sProp 𝕄) := by
  unfold recs
  refine BIClass.sep_mono ?_ (Entails.of_eq (bigSep_map (s := Finset.univ) barEmb (Φ := fun g : GSem nD τ sig => (reached ER g 0 : sProp 𝕄))))
  have hone (p : Dev nD × Fin 6) : iprop((bigSep (barCells ∪ ownCells) fun g => (cellInv ER (exRd (keyAt m) (valAt m)) (κ g) g : sProp 𝕄)) ∗ emp)
      ⊢ cellInv ER (exRd (keyAt m) (valAt m)) (κ (kcell p)) (kcell p) := by
    rw [show iprop((bigSep (barCells ∪ ownCells) fun g => (cellInv ER (exRd (keyAt m) (valAt m)) (κ g) g : sProp 𝕄)) ∗ emp)
      = (bigSep (barCells ∪ ownCells) fun g => (cellInv ER (exRd (keyAt m) (valAt m)) (κ g) g : sProp 𝕄)) from BI.equiv_iff.mp sep_emp]
    exact bigSep_elim (kcell_mem p)
  have hall := bigSep_with_persistent (S := (Finset.univ : Finset (Dev nD × Fin 6)))
    (R := (bigSep (barCells ∪ ownCells) fun g => (cellInv ER (exRd (keyAt m) (valAt m)) (κ g) g : sProp 𝕄)))
    (Φ := fun _ => (iprop(emp) : sProp 𝕄)) (Ψ := fun p => cellInv ER (exRd (keyAt m) (valAt m)) (κ (kcell p)) (kcell p)) fun p _ => hone p
  rw [none_all] at hall
  iintro H
  iapply hall
  isplitl [H]; · iexact H
  iempintro

theorem shares_from :
    iprop((bigSep barCells fun g => (atPos ER g 0 ∅ 0 : sProp 𝕄)) ∗ (bigSep ownCells fun g => (openTok ER g : sProp 𝕄))
        ∗ bigSep allToks fun x => (dutyTok ER x.1 x.2.1 x.2.2 : sProp 𝕄))
      ⊢ bigSep Finset.univ (share (F := F)) := by
  have ha : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep ownCells (fun g => (openTok ER g : sProp 𝕄)) ⊢ bigSep Finset.univ (fun c : Dev nD =>
      (iprop(openTok ER (sc0 c) ∗ openTok ER (sc1 c) ∗ openTok ER (sc2 c) ∗ openTok ER (rc0 c) ∗ openTok ER (rc1 c)) : sProp 𝕄)) :=
    Entails.of_eq (by
      rw [bigSep_map, bigSep_univ_prod]
      exact bigSep_congr fun c _ => bigSep_univ_eq_bigSepL [(0 : Fin 5), 1, 2, 3, 4] (by decide) (by decide) _)
  have ht : bigSep allToks (fun x => (dutyTok ER x.1 x.2.1 x.2.2 : sProp 𝕄)) ⊢ bigSep Finset.univ (payToks (F := F)) := by
    rw [toks_by_payer]
    exact bigSep_mono fun d _ => pay_from d
  unfold share
  iintro ⟨Ha, Ho, Ht⟩
  iapply pair_all
  isplitl [Ha]; · iapply ha $$ Ha
  iapply pair_all
  isplitl [Ho]; · iapply ho $$ Ho
  iapply ht $$ Ht

/-- The start of the run: the counters and the minted ghost state become every device's share. -/
theorem start :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(seat m c ∗ (semVal (barCell c) 0 ∗ G c)) : sProp 𝕄) := by
    rw [show unscopedBufs c (fun b => m ((c : Thread nD τ).loc b)) = StableHlo.held (c : Thread nD τ) (ucRefs τ sig) (W₀ m c)
      from Pipeline.unscopedBufs_held c (W₀ m c), counters0]
    unfold seat anyPrng
    iintro ⟨Hh, Hs, HO, Hc, Hp, HG⟩
    isplitr [Hs HG]
    · isplitl [Hh]; · iexact Hh
      isplitl [Hc]; · iapply (creds_from (F := F) c) $$ Hc
      isplitl [Hp]; · iexists (ρ c); iexact Hp
      iexact HO
    isplitl [Hs]; · iexact Hs
    iexact HG
  have hcores : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (bigSep Finset.univ fun c : Dev nD => iprop(seat m c ∗ (semVal (barCell c) 0 ∗ G c)) : sProp 𝕄) := bigSep_mono fun c _ => hcore c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  iintro ⟨H, -⟩
  ihave H1 := hcores $$ H
  ihave H2 := unpair_all $$ H1; icases H2 with ⟨HB, H3⟩
  ihave H4 := unpair_all $$ H3; icases H4 with ⟨Hv, HG⟩
  ihave Hu := (Entails.of_eq (G_all (F := F))) $$ HG
  imod (Rounds.fund_launch ER (exRd (keyAt m) (valAt m)) cells_apart (fun g _ h => h) allToks) $$ [Hv Hu] with ⟨%κ, -, #Hinv, #Hr, Hat, Hopen, Htok⟩
  · isplitl [Hv]
    · iapply hv $$ Hv
    · iexact Hu
  imodintro
  iapply (bigSep_with_persistent (R := recs (keyAt m) (valAt m) κ) (Φ := fun c => iprop(share (F := F) c ∗ seat m c)) fun c _ => seated m κ c)
  isplitr
  · iapply (recs_from m κ)
    isplitr; · iexact Hinv
    iexact Hr
  iapply pair_all
  isplitr [HB]
  · iapply (shares_from (F := F))
    isplitl [Hat]; · iexact Hat
    isplitl [Hopen]; · iexact Hopen
    iexact Htok
  iexact HB

/-! ## The run -/

theorem only_bar : ∀ sm : SemLoc sig, sm.isScoped .tc = false → sm = .reg bS := by decide

set_option backward.isDefEq.respectTransparency.types false in
/-- From any memory with zero counters, every fair execution ends, with every buffer outside the kernel's scratch at
    its last value and every counter of the mesh at zero. -/
theorem run_all : θ_run (defs (F := F)) (onTc (τ := τ) (main (F := F))) ⟨m, fun _ => 0, ρ⟩
    (fun r => (∀ c : Dev nD, ∀ b ∈ ucRefs τ sig, r.2.mem (c, b) = W₃ m c b) ∧ r.2.sem = fun _ => 0) :=
  Pipeline.θ_run_regions_kit_sems (pcfgs (F := F)) adm (pdats m) () cellOf_inj EP defs₀ Variants.none L lv m ρ main (segs m)
    (fun c Q => by rw [main_eq m c])
    (by simp only [segs, Pipeline.Seg.pipes_host, Pipeline.Seg.pipes_region, Pipeline.Seg.pipes_nil]; decide)
    (O₀ := O₀) (hL := L_ne) (G := G) (u₀ := u₀ (F := F))
    (hu₀ := by
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => region_pre m c, fun c => region_post m c, fun c => ?_⟩
      show iprop(StableHlo.held (c : Thread nD τ) (ucRefs τ sig) (W₃ m c)
          ∗ rideOut (F := F) c)
        ⊢ iprop(Tₙ m c ∗ ∃ W, owes (c : Thread nD τ) (0 : CellTallies nD τ sig Unit) W)
      unfold rideOut Tₙ
      iintro ⟨Hh, Hb, HO⟩
      isplitr [HO]
      · isplitl [Hh]; · iexact Hh
        iexact Hb
      iexact HO)
    (hinit := start m ρ)
    (QY := fun c s => (∀ b ∈ ucRefs τ sig, s.mem (c, b) = W₃ m c b) ∧ s.sem (barCell c) = 0)
    (hfin := fun c s' => by
      unfold Tₙ StableHlo.held
      iintro ⟨⟨Hh, Hb⟩, HSI⟩
      ihave Hr := (pointsTo_read_all (ucRefs τ sig) (fun b => ((c.tc : Thread nD τ).1, b)) (W₃ m c) s') $$ [Hh HSI]
      · isplitl [Hh]; · iexact Hh
        iexact HSI
      icases Hr with ⟨%hr, HSI⟩
      icombine HSI Hb gives %hb
      imodintro
      isplitr
      · ipureintro
        exact ⟨hr, by simpa using hb⟩
      iexact HSI)
    (hQ := fun s h hs => ⟨fun c => (h c).1,
      sem_eq_zero hs fun c sm hsm => by
        obtain rfl := only_bar sm hsm
        exact (h c).2⟩)

end Cert.KernelIdeal.Ex

end
-- ==== Proof.Final.lean ====
module

public import proofs.«01_k».proof.Proof.Launch

@[expose] public section

noncomputable section

namespace Cert.KernelIdeal.Ex

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ucRefs)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The buffers at the end -/

/-- A buffer that the host line after the region does not write keeps what the region left. -/
theorem after_out (c : Dev nD) (b : Ref sig .tc) (h : b ≠ main_v5) : W₃ m c (Proc.devRef .tc b) = W₂ m c (Proc.devRef .tc b) := by
  refine StableHlo.after_of_forall_not_mem (b := Proc.devRef .tc b) _ _ (List.forall_iff_forall_mem.mp ?_)
  simp only [hostOps1, List.Forall, StableHlo.reshape_writes, Finset.mem_singleton]
  exact StableHlo.devRef_ne_of_ne h

theorem kept_out (c : Dev nD) (b : Ref sig .tc) (h : b ≠ main_v5) (hb : ∀ w, b ≠ Pipeline.arrRef spec0 w) :
    W₃ m c (Proc.devRef .tc b) = V m c b := by
  rw [after_out m c b h]
  exact Pipeline.afterRegion_of_not_arr (dat m c) (W₁ m c) hb

theorem kept_in (c : Dev nD) (w : Fin cfg0.W) (hw : (cfg0.win w).isOut = false) (h : Pipeline.arrRef spec0 w ≠ main_v5) :
    W₃ m c (Proc.devRef .tc (Pipeline.arrRef spec0 w)) = V m c (Pipeline.arrRef spec0 w) := by
  rw [after_out m c _ h]
  exact (Pipeline.afterRegion_arr (dat m c) (W₁ m c) winFacts0.arr_inj w).trans ((dat m c).arrAt_in w hw _)

theorem end_arg0 (c : Dev nD) : W₃ m c (Proc.devRef .tc main_arg0) = m ((c : Thread nD τ).loc main_arg0) :=
  (kept_out m c main_arg0 (by decide) (by decide)).trans (V_main_arg0 m c)
theorem end_arg1 (c : Dev nD) : W₃ m c (Proc.devRef .tc main_arg1) = m ((c : Thread nD τ).loc main_arg1) :=
  (kept_in m c 1 rfl (by decide)).trans (V_main_arg1 m c)
theorem end_arg2 (c : Dev nD) : W₃ m c (Proc.devRef .tc main_arg2) = m ((c : Thread nD τ).loc main_arg2) :=
  (kept_out m c main_arg2 (by decide) (by decide)).trans (V_main_arg2 m c)
theorem end_arg3 (c : Dev nD) : W₃ m c (Proc.devRef .tc main_arg3) = m ((c : Thread nD τ).loc main_arg3) :=
  (kept_out m c main_arg3 (by decide) (by decide)).trans (V_main_arg3 m c)
theorem end_arg4 (c : Dev nD) : W₃ m c (Proc.devRef .tc main_arg4) = m ((c : Thread nD τ).loc main_arg4) :=
  (kept_in m c 4 rfl (by decide)).trans (V_main_arg4 m c)

/-- The result is what the region left in its output array, re-laid out. -/
theorem end_out (c : Dev nD) : W₃ m c (Proc.devRef .tc main_v5) = shapeCast S2x128x512 (outAt m c) shapeCasts_S256x512_S2x128x512 := by
  have h : W₂ m c (Proc.devRef .tc main_v4) = outAt m c :=
    (Pipeline.afterRegion_arr (dat m c) (W₁ m c) winFacts0.arr_inj 5).trans (out_arr m c)
  unfold W₃
  unfold hostOps1
  after_results
  rw [h]
  rfl

/-- The run, at the buffers that the claims read. -/
theorem run_end : θ_run (defs (F := F)) (onTc (τ := τ) (main (F := F))) ⟨m, fun _ => 0, ρ⟩
    (fun r => (∀ c : Dev nD, r.2.mem ((c : Thread nD τ).loc main_v5) = shapeCast S2x128x512 (outAt m c) shapeCasts_S256x512_S2x128x512
        ∧ (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4))) ∧ r.2.sem = fun _ => 0) :=
  (θ_run (defs (F := F)) (onTc (τ := τ) (main (F := F))) ⟨m, fun _ => 0, ρ⟩).mono (fun r ⟨h, hs⟩ =>
    ⟨fun c => ⟨(h c _ (Pipeline.devRef_mem_ucRefs (b := main_v5) rfl)).trans (end_out m c),
      (h c _ (Pipeline.devRef_mem_ucRefs (b := main_arg0) rfl)).trans (end_arg0 m c),
      (h c _ (Pipeline.devRef_mem_ucRefs (b := main_arg1) rfl)).trans (end_arg1 m c),
      (h c _ (Pipeline.devRef_mem_ucRefs (b := main_arg2) rfl)).trans (end_arg2 m c),
      (h c _ (Pipeline.devRef_mem_ucRefs (b := main_arg3) rfl)).trans (end_arg3 m c),
      (h c _ (Pipeline.devRef_mem_ucRefs (b := main_arg4) rfl)).trans (end_arg4 m c)⟩, hs⟩) (run_all m ρ)

end Cert.KernelIdeal.Ex

end
-- ==== Proof.Frames.lean ====
module

public import proofs.«01_k».proof.Defs
public import proofs.«01_k».proof.Proof.Final
public import proofs.«01_k».proof.Proof.Bits.Final
public import proofs.«01_k».proof.Proof.Gen.ReferenceIdeal.Run
public import Idealize.ShloMosaic.Lib.Quiescent

@[expose] public section

noncomputable section

namespace Cert.Frames

open Idealize.ShloMosaic Idealize.ShloMosaic.TcCoe Idealize.SL.Sem

/-- The kernel ends with its arguments unchanged and every counter at zero. -/
theorem kernel : Cert.quiescent_Kernel (hKernel := Cert.Kernel.Gen.facts) := fun m g _ =>
  (θ_run _ _ _).mono (fun _ ⟨h, hs⟩ => ⟨fun c => (h c).2, hs⟩) (Cert.Kernel.Ex.run_end m g)

/-- And so does its reading over the extended reals. -/
theorem ideal : Cert.quiescent_KernelIdeal (hKernelIdeal := Cert.KernelIdeal.Gen.facts) := fun m g _ =>
  (θ_run _ _ _).mono (fun _ ⟨h, hs⟩ => ⟨fun c => (h c).2, hs⟩) (Cert.KernelIdeal.Ex.run_end m g)

theorem no_counters : Cert.ReferenceIdeal.sig.nSem + Cert.ReferenceIdeal.sig.nDmaSem = 0 := by decide

/-- And so does the reference. -/
theorem reference : Cert.quiescent_ReferenceIdeal (hReferenceIdeal := Cert.ReferenceIdeal.Gen.facts) := fun m g _ =>
  (θ_run _ _ _).mono (fun r h => ⟨fun c => (h c).2, sem_eq_zero_of_no_sems no_counters r.2⟩) (Cert.ReferenceIdeal.Value.run m g)

theorem kernel_pre_facts : Cert.Pre_finite_inputs_KernelIdeal.Facts := ⟨by decide, by decide, by decide⟩

theorem reference_pre_facts : Cert.Pre_finite_inputs_ReferenceIdeal.Facts := ⟨by decide, by decide, by decide⟩

/-- The same of finite inputs: the precondition is not used. -/
theorem ideal_finite : Cert.quiescent_KernelIdeal_pre_finite_inputs_KernelIdeal (hKernelIdeal := Cert.KernelIdeal.Gen.facts)
    (hPre_finite_inputs_KernelIdeal := kernel_pre_facts) := fun m g _ => ideal m g trivial

theorem reference_finite : Cert.quiescent_ReferenceIdeal_pre_finite_inputs_ReferenceIdeal (hReferenceIdeal := Cert.ReferenceIdeal.Gen.facts)
    (hPre_finite_inputs_ReferenceIdeal := reference_pre_facts) := fun m g _ => reference m g trivial

/-- The masking constant is named, and its name stands for minus infinity. -/
theorem mask_named : Cert.preserves_Kernel_KernelIdeal :=
  IdealRules.named_const.statement _ _ _ _ _ rfl

end Cert.Frames

end
-- ==== Proof.Arrays.lean ====
module

public import proofs.«01_k».proof.Proof.Final
public import Idealize.ShloMosaic.Lib.Pointwise

@[expose] public section

noncomputable section

namespace Cert.KernelIdeal.Ex

open Idealize.ShloMosaic Idealize.ShloMosaic.TcCoe Idealize.ShloMosaic.Tactic
open Cert.KernelIdeal Cert.KernelIdeal.Gen

variable (m : (ℓ : Loc nD τ sig) → Buf (Elt Ideal) ℓ)

/-! ## The region's inputs, from the program's arguments -/

theorem V_main_v1_eq (c : Dev nD) : V m c main_v1 = shapeCast S256x512 (m ((c : Thread nD τ).loc main_arg0)) shapeCasts_S2x128x512_S256x512 := by
  unfold V V0
  unfold hostOps0
  simp only [List.flatten_cons, List.flatten_nil, List.append_nil]
  after_results
  rfl

theorem V_main_v2_eq (c : Dev nD) : V m c main_v2 = shapeCast S2x128x256 (m ((c : Thread nD τ).loc main_arg2)) shapeCasts_S2x128x4x64_S2x128x256 := by
  unfold V V0
  unfold hostOps0
  simp only [List.flatten_cons, List.flatten_nil, List.append_nil]
  after_results
  rfl

theorem V_main_v3_eq (c : Dev nD) : V m c main_v3 = shapeCast S2x128x256 (m ((c : Thread nD τ).loc main_arg3)) shapeCasts_S2x128x4x64_S2x128x256 := by
  unfold V V0
  unfold hostOps0
  simp only [List.flatten_cons, List.flatten_nil, List.append_nil]
  after_results
  rfl

theorem hidAt_eq (c : Dev nD) : hidAt m c = shapeCast S256x512 (m ((c : Thread nD τ).loc main_arg0)) shapeCasts_S2x128x512_S256x512 := by
  funext x
  refine Eq.trans ?_ (congrFun (V_main_v1_eq m c) x)
  refine congrArg (V m c main_v1) (funext fun a => Fin.ext ?_)
  match a with
  | ⟨0, _⟩ => exact Pipeline.Window.rect_emb_val_of_index_zero (cfg0.win 0) t0_0 0 rfl x
  | ⟨1, _⟩ => exact Pipeline.Window.rect_emb_val_of_index_zero (cfg0.win 0) t0_0 1 rfl x

theorem wqAt_eq (c : Dev nD) : wqAt m c = m ((c : Thread nD τ).loc main_arg1) := by
  funext x
  refine Eq.trans ?_ (congrFun (V_main_arg1 m c) x)
  refine congrArg (V m c main_arg1) (funext fun a => Fin.ext ?_)
  match a with
  | ⟨0, _⟩ => exact Pipeline.Window.rect_emb_val_of_index_zero (cfg0.win 1) t0_0 0 rfl x
  | ⟨1, _⟩ => exact Pipeline.Window.rect_emb_val_of_index_zero (cfg0.win 1) t0_0 1 rfl x

theorem keyAt_eq (c : Dev nD) : keyAt m c = shapeCast S2x128x256 (m ((c : Thread nD τ).loc main_arg2)) shapeCasts_S2x128x4x64_S2x128x256 := by
  funext x
  refine Eq.trans ?_ (congrFun (V_main_v2_eq m c) x)
  refine congrArg (V m c main_v2) (funext fun a => Fin.ext ?_)
  match a with
  | ⟨0, _⟩ => exact Pipeline.Window.rect_emb_val_of_index_zero (cfg0.win 2) t0_0 0 rfl x
  | ⟨1, _⟩ => exact Pipeline.Window.rect_emb_val_of_index_zero (cfg0.win 2) t0_0 1 rfl x
  | ⟨2, _⟩ => exact Pipeline.Window.rect_emb_val_of_index_zero (cfg0.win 2) t0_0 2 rfl x

theorem valAt_eq (c : Dev nD) : valAt m c = shapeCast S2x128x256 (m ((c : Thread nD τ).loc main_arg3)) shapeCasts_S2x128x4x64_S2x128x256 := by
  funext x
  refine Eq.trans ?_ (congrFun (V_main_v3_eq m c) x)
  refine congrArg (V m c main_v3) (funext fun a => Fin.ext ?_)
  match a with
  | ⟨0, _⟩ => exact Pipeline.Window.rect_emb_val_of_index_zero (cfg0.win 3) t0_0 0 rfl x
  | ⟨1, _⟩ => exact Pipeline.Window.rect_emb_val_of_index_zero (cfg0.win 3) t0_0 1 rfl x
  | ⟨2, _⟩ => exact Pipeline.Window.rect_emb_val_of_index_zero (cfg0.win 3) t0_0 2 rfl x

theorem woAt_eq (c : Dev nD) : woAt m c = m ((c : Thread nD τ).loc main_arg4) := by
  funext x
  refine Eq.trans ?_ (congrFun (V_main_arg4 m c) x)
  refine congrArg (V m c main_arg4) (funext fun a => Fin.ext ?_)
  match a with
  | ⟨0, _⟩ => exact Pipeline.Window.rect_emb_val_of_index_zero (cfg0.win 4) t0_0 0 rfl x
  | ⟨1, _⟩ => exact Pipeline.Window.rect_emb_val_of_index_zero (cfg0.win 4) t0_0 1 rfl x

theorem hidAt_apply (c : Dev nD) (b : Fin 2) (i : Fin 128) (n : Fin 512) :
    hidAt m c (ix2 ⟨b.val * 128 + i.val, by omega⟩ n) = m ((c : Thread nD τ).loc main_arg0) (ix3 b i n) := by
  rw [hidAt_eq]
  refine shapeCast_apply _ _ _ (ix3 b i n) ?_
  rw [Shape.rowMajor_val_three, Shape.rowMajor_val_two]
  simp

theorem keyAt_apply (c : Dev nD) (b : Fin 2) (j : Fin 128) (h : Fin 4) (e : Fin 64) :
    keyAt m c (ix3 b j ⟨h.val * 64 + e.val, by omega⟩) = m ((c : Thread nD τ).loc main_arg2) (ix4 b j h e) := by
  rw [keyAt_eq]
  refine shapeCast_apply _ _ _ (ix4 b j h e) ?_
  rw [Shape.rowMajor_val_three, Shape.rowMajor_val_four]
  simp
  omega

theorem valAt_apply (c : Dev nD) (b : Fin 2) (j : Fin 128) (h : Fin 4) (e : Fin 64) :
    valAt m c (ix3 b j ⟨h.val * 64 + e.val, by omega⟩) = m ((c : Thread nD τ).loc main_arg3) (ix4 b j h e) := by
  rw [valAt_eq]
  refine shapeCast_apply _ _ _ (ix4 b j h e) ?_
  rw [Shape.rowMajor_val_three, Shape.rowMajor_val_four]
  simp
  omega

end Cert.KernelIdeal.Ex

end
-- ==== Proof.Softmax.lean ====
module

public import Idealize.ShloMosaic.Lib.Pointwise

@[expose] public section

noncomputable section

/-! The softmax over a row of scores, masked and normalised, against the two partial sums that are divided once:
    a statement about extended reals, with no program in it. -/

namespace Cert.Softmax

open Idealize.ShloMosaic

/-! ## Sums of extended reals -/

theorem coe_sum {ι : Type} [Fintype ι] (f : ι → ℝ) : (∑ i, ((f i : ℝ) : EReal)) = ((∑ i, f i : ℝ) : EReal) := by
  classical
  have h : ∀ s : Finset ι, (∑ i ∈ s, ((f i : ℝ) : EReal)) = ((∑ i ∈ s, f i : ℝ) : EReal) := by
    intro s
    induction s using Finset.induction_on with
    | empty => simp
    | insert a s ha ih => rw [Finset.sum_insert ha, Finset.sum_insert ha, ih, EReal.coe_add]
  exact h _

/-- A real factor that is not negative moves into a sum. -/
theorem sum_mul_coe {ι : Type} [Fintype ι] (f : ι → EReal) (c : ℝ) (hc : 0 ≤ c) :
    (∑ i, f i) * (c : EReal) = ∑ i, f i * (c : EReal) := by
  classical
  have h : ∀ s : Finset ι, (∑ i ∈ s, f i) * (c : EReal) = ∑ i ∈ s, f i * (c : EReal) := by
    intro s
    induction s using Finset.induction_on with
    | empty => simp
    | insert a s ha ih =>
      rw [Finset.sum_insert ha, Finset.sum_insert ha, ← ih]
      rw [mul_comm, mul_comm (f a), mul_comm (∑ i ∈ s, f i)]
      exact EReal.left_distrib_of_nonneg_of_ne_top (by exact_mod_cast hc) (EReal.coe_ne_top c) _ _
  exact h _

/-- A row of 512 terms, of which the last 256 vanish, is the sum of its first two blocks of 128. -/
theorem sum_two_blocks {M : Type} [AddCommMonoid M] (f : Fin 512 → M) (h : ∀ j : Fin 512, 256 ≤ j.val → f j = 0) :
    ∑ j, f j = (∑ l : Fin 128, f ⟨l.val, by omega⟩) + ∑ l : Fin 128, f ⟨128 + l.val, by omega⟩ := by
  have e : ∑ j : Fin (128 + (128 + 256)), f j
      = (∑ l : Fin 128, f (Fin.castAdd (128 + 256) l))
        + ((∑ l : Fin 128, f (Fin.natAdd 128 (Fin.castAdd 256 l))) + ∑ l : Fin 256, f (Fin.natAdd 128 (Fin.natAdd 128 l))) := by
    rw [Fin.sum_univ_add, Fin.sum_univ_add]
  refine e.trans ?_
  rw [Finset.sum_eq_zero (s := (Finset.univ : Finset (Fin 256))), add_zero]
  · rfl
  · intro l _
    exact h _ (by simp only [Fin.natAdd]; omega)

/-- The scale of the scores. -/
theorem eighth : Ideal.ofBits .f32 0x3E000000#32 = ((1 / 8 : ℝ) : EReal) := by
  simp [Ideal.ofBits, Ideal.ieee, -EReal.coe_mul]
  norm_num

/-- The pattern of −∞. -/
theorem minus_inf : Ideal.ofBits .f32 0xFF800000#32 = (⊥ : EReal) := by
  simp [Ideal.ofBits, Ideal.ieee, -EReal.coe_mul]

/-! ## Words -/

theorem toInt_word (a : ℕ) (ha : a < 2 ^ 31) : (BitVec.ofNat 32 a).toInt = (a : ℤ) := by
  rw [BitVec.toInt_ofNat', Int.bmod_def]
  omega

theorem sle_word (a b : ℕ) (ha : a < 2 ^ 31) (hb : b < 2 ^ 31) :
    IntOp.cmpi .sle (BitVec.ofNat 32 a) (BitVec.ofNat 32 b) = if a ≤ b then 1#1 else 0#1 := by
  have e : IntOp.cmpi .sle (BitVec.ofNat 32 a) (BitVec.ofNat 32 b)
      = BitVec.ofBool (decide ((BitVec.ofNat 32 a).toInt ≤ (BitVec.ofNat 32 b).toInt)) := rfl
  rw [e, toInt_word a ha, toInt_word b hb]
  by_cases h : a ≤ b
  · rw [if_pos h, decide_eq_true (by exact_mod_cast h)]; rfl
  · rw [if_neg h, decide_eq_false (by exact_mod_cast h)]; rfl

/-! ## The greatest of a row -/

/-- The greatest of a row of reals and of −∞, one of which is real, is real. -/
theorem fold_max_real (R : Fin 512 → EReal) (hR : ∀ j, R j ≠ ⊤) (j₀ : Fin 512) (h₀ : R j₀ ≠ ⊥) :
    ∃ m : ℝ, Finset.univ.fold max (⊥ : EReal) R = (m : EReal) := by
  have ht : Finset.univ.fold max (⊥ : EReal) R < ⊤ := by
    rw [Finset.fold_max_lt]
    exact ⟨bot_lt_top, fun j _ => lt_top_iff_ne_top.2 (hR j)⟩
  have hb : ⊥ < Finset.univ.fold max (⊥ : EReal) R := by
    refine lt_of_lt_of_le (bot_lt_iff_ne_bot.2 h₀) ?_
    rw [Finset.le_fold_max]
    exact Or.inr ⟨j₀, Finset.mem_univ _, le_rfl⟩
  exact ⟨_, (EReal.coe_toReal ht.ne hb.ne').symm⟩

/-! ## The two readings of a row -/

/-- The masked row of scores of query `i`: key `j` is seen where it is at most 128 after the query. -/
def masked (i : Fin 128) (s : Fin 512 → EReal) (j : Fin 512) : EReal := if j.val ≤ i.val + 128 then s j else ⊥

/-- The row's weights before they are normalised, its greatest score taken off. -/
def weight (i : Fin 128) (s : Fin 512 → EReal) (j : Fin 512) : EReal :=
  Ideal.exp (masked i s j - Finset.univ.fold max ⊥ (masked i s))

/-- The row of the attention's result: the normalised weights against the values. -/
def whole (i : Fin 128) (s V : Fin 512 → EReal) : EReal :=
  ∑ j, V j * Ideal.div (weight i s j) (0 + ∑ k, weight i s k)

/-- What is added to the scores of the second block. -/
def bias (i l : Fin 128) : EReal := if l.val ≤ i.val then 0 else ⊥

/-- The same row by two blocks of keys: each block's plain exponentials, one division at the end. -/
def blocks (i : Fin 128) (s₀ s₁ V₀ V₁ : Fin 128 → EReal) : EReal :=
  Ideal.div ((∑ l, Ideal.exp (s₀ l) * V₀ l) + ∑ l, Ideal.exp (s₁ l + bias i l) * V₁ l)
    ((∑ l, Ideal.exp (s₀ l)) + ∑ l, Ideal.exp (s₁ l + bias i l))

theorem blocks_eq_whole (i : Fin 128) (r : Fin 512 → ℝ) (V : Fin 512 → EReal) :
    blocks i (fun l => (r ⟨l.val, by omega⟩ : EReal)) (fun l => (r ⟨128 + l.val, by omega⟩ : EReal))
        (fun l => V ⟨l.val, by omega⟩) (fun l => V ⟨128 + l.val, by omega⟩)
      = whole i (fun j => (r j : EReal)) V := by
  -- the greatest score is a real
  obtain ⟨m, hm⟩ := fold_max_real (masked i fun j => (r j : EReal))
    (fun j => by unfold masked; split; exacts [EReal.coe_ne_top _, bot_ne_top]) ⟨0, by omega⟩
    (by unfold masked; rw [if_pos (by simp)]; exact EReal.coe_ne_bot _)
  -- the unnormalised weights, the greatest score not taken off
  let p : Fin 512 → ℝ := fun j => if j.val ≤ i.val + 128 then Real.exp (r j) else 0
  have hp0 : ∀ j, 0 ≤ p j := fun j => by dsimp only [p]; split; exacts [(Real.exp_pos _).le, le_rfl]
  have hw : ∀ j, weight i (fun j => (r j : EReal)) j = ((p j * Real.exp (-m) : ℝ) : EReal) := by
    intro j
    unfold weight
    rw [hm]
    unfold masked
    dsimp only [p]
    split
    · rw [← EReal.coe_sub, sub_eq_add_neg, ← Real.exp_add]; rfl
    · rw [sub_eq_add_neg, EReal.bot_add, zero_mul]; rfl
  have hlo : ∀ l : Fin 128, Ideal.exp (r ⟨l.val, by omega⟩ : EReal) = ((p ⟨l.val, by omega⟩ : ℝ) : EReal) := by
    intro l
    dsimp only [p]
    rw [if_pos (by omega)]; rfl
  have hhi : ∀ l : Fin 128, Ideal.exp ((r ⟨128 + l.val, by omega⟩ : EReal) + bias i l) = ((p ⟨128 + l.val, by omega⟩ : ℝ) : EReal) := by
    intro l
    unfold bias
    dsimp only [p]
    by_cases h : l.val ≤ i.val
    · rw [if_pos h, if_pos (by omega), add_zero]; rfl
    · rw [if_neg h, if_neg (by omega), EReal.add_bot]; rfl
  have hz : ∀ j : Fin 512, 256 ≤ j.val → p j = 0 := by
    intro j hj
    dsimp only [p]
    rw [if_neg (by omega)]
  -- the normaliser
  have hP : 0 < ∑ j, p j := by
    refine Finset.sum_pos' (fun j _ => hp0 j) ⟨⟨0, by omega⟩, Finset.mem_univ _, ?_⟩
    dsimp only [p]
    rw [if_pos (by simp)]
    exact Real.exp_pos _
  have hS : (0 : EReal) + ∑ k, weight i (fun j => (r j : EReal)) k = (((∑ j, p j) * Real.exp (-m) : ℝ) : EReal) := by
    rw [zero_add, Finset.sum_congr rfl (fun k _ => hw k), coe_sum, Finset.sum_mul]
  have hE := Real.exp_pos (-m)
  have hN : ∀ j, Ideal.div (weight i (fun j => (r j : EReal)) j) (0 + ∑ k, weight i (fun j => (r j : EReal)) k)
      = ((p j * (∑ j, p j)⁻¹ : ℝ) : EReal) := by
    intro j
    have hne : (∑ j, p j) * Real.exp (-m) ≠ 0 := (mul_pos hP hE).ne'
    have hP' := hP.ne'
    rw [hS, hw, Ideal.div_coe hne]
    rw [← EReal.coe_mul]
    congr 1
    field_simp
  -- the two readings
  unfold whole blocks
  refine Eq.trans ?_ (Finset.sum_congr rfl fun j _ => congrArg (V j * ·) (hN j)).symm
  simp only [hlo, hhi]
  rw [coe_sum, coe_sum, ← EReal.coe_add, ← sum_two_blocks p hz]
  rw [← sum_two_blocks (fun j => ((p j : ℝ) : EReal) * V j) (fun j hj => by rw [hz j hj]; simp)]
  rw [Ideal.div_coe hP.ne', sum_mul_coe _ _ (by positivity)]
  refine Finset.sum_congr rfl fun j _ => ?_
  rw [EReal.coe_mul, mul_comm ((p j : ℝ) : EReal), mul_assoc, one_div]

end Cert.Softmax

end
-- ==== Proof.Heads.lean ====
module

public import proofs.«01_k».proof.Proof.Reads
public import proofs.«01_k».proof.Proof.Softmax
public import Idealize.ShloMosaic.Lib.Pointwise

@[expose] public section

noncomputable section

namespace Cert.KernelIdeal.Ex

open Idealize.ShloMosaic Idealize.ShloMosaic.TcCoe
open Cert.KernelIdeal Cert.KernelIdeal.Gen

/-! ## One head of one batch -/

variable {F : FTy → Type} [FloatOps F] [Named F]

/-- The exponentials of the first block's scores. -/
def expo₀ (q k : FVec F S128x64 .bf16) : FVec F S128x128 .f32 :=
  exp (matmul dot_S128x64_S128x64_S128x128_1_1_0_0_n_n none q k (constant S128x128 .f32 0x00000000#32))

/-- The exponentials of the second block's masked scores. -/
def expo₁ (q k : FVec F S128x64 .bf16) : FVec F S128x128 .f32 :=
  exp (addf (matmul dot_S128x64_S128x64_S128x128_1_1_0_0_n_n none q k (constant S128x128 .f32 0x00000000#32)) k0_pay9)

/-- The sum of a block's weights, query by query. -/
def total (w : FVec F S128x128 .f32) : FVec F S128x1 .f32 :=
  shapeCast S128x1 (multiReduction .add [1] S128 w 0x00000000#32 reduces_S128x128_S128 (.inl rfl) rfl) shapeCasts_S128_S128x1

/-- A block's weights against its values. -/
def mixed (w : FVec F S128x128 .f32) (v : FVec F S128x64 .bf16) : FVec F S128x64 .f32 :=
  matmul dot_S128x128_S128x64_S128x64_1_0_0_1_n_n none (truncf .bf16 w bitsLt_bf16_f32) v (constant S128x64 .f32 0x00000000#32)

/-- A head's result, from its columns of the queries and of both blocks' keys and values. -/
def headOut (q k₀ v₀ k₁ v₁ : FVec F S128x64 .bf16) : FVec F S128x64 .f32 :=
  divf (addf (mixed (expo₀ q k₀) v₀) (mixed (expo₁ q k₁) v₁))
    (broadcastTo S128x64 (addf (total (expo₀ q k₀)) (total (expo₁ q k₁))) broadcasts_S128x1_S128x64)

/-- The queries of all heads and both batches, scaled. -/
def queries (X0 : Vec F S256x512 .bf16) (X1 : Vec F S512x256 .bf16) : FVec F S256x256 .bf16 := k0_pay8 (k0_pay6 X1) (k0_pay7 X0)

/-- A batch's rows of keys or values. -/
def rowsOf (h : Fin 2) (k : Vec F S2x128x256 .bf16) : FVec F S128x256 .bf16 :=
  shapeCast S128x256 (batchRow h k) shapeCasts_S1x1x1x128x256_S128x256

/-- Head `(b, n)`, its columns at `off`. -/
abbrev headAt (q : FVec F S256x256 .bf16) (k₀ v₀ k₁ v₁ : FVec F S128x256 .bf16) (o : Fin 2 → ℕ) (o' : Fin 2 → ℕ)
    (hq : S256x256.Slices o S128x64) (hk : S128x256.Slices o' S128x64) : FVec F S128x64 .f32 :=
  headOut (extractStridedSlice S128x64 o q hq) (extractStridedSlice S128x64 o' k₀ hk) (extractStridedSlice S128x64 o' v₀ hk)
    (extractStridedSlice S128x64 o' k₁ hk) (extractStridedSlice S128x64 o' v₁ hk)

/-- The four heads of a batch side by side, the batch's queries from row `b`. -/
def batchOut (q : FVec F S256x256 .bf16) (k₀ v₀ k₁ v₁ : FVec F S128x256 .bf16) (b : ℕ)
    (h0 : S256x256.Slices ![b, 0] S128x64) (h1 : S256x256.Slices ![b, 64] S128x64)
    (h2 : S256x256.Slices ![b, 128] S128x64) (h3 : S256x256.Slices ![b, 192] S128x64) : FVec F S128x256 .f32 :=
  concatenate S128x256 1
    [⟨S128x64, headAt q k₀ v₀ k₁ v₁ ![b, 0] ![0, 0] h0 slices_S128x256_o0_0_S128x64⟩,
     ⟨S128x64, headAt q k₀ v₀ k₁ v₁ ![b, 64] ![0, 64] h1 slices_S128x256_o0_64_S128x64⟩,
     ⟨S128x64, headAt q k₀ v₀ k₁ v₁ ![b, 128] ![0, 128] h2 slices_S128x256_o0_128_S128x64⟩,
     ⟨S128x64, headAt q k₀ v₀ k₁ v₁ ![b, 192] ![0, 192] h3 slices_S128x256_o0_192_S128x64⟩]
    concatenates_S128x64_S128x64_S128x64_S128x64_S128x256_d1

/-- Both batches' heads, batch under batch. -/
def attnOut (X0 : Vec F S256x512 .bf16) (X1 : Vec F S512x256 .bf16) (k₀ v₀ k₁ v₁ : Vec F S2x128x256 .bf16) : FVec F S256x256 .f32 :=
  concatenate S256x256 0
    [⟨S128x256, batchOut (queries X0 X1) (rowsOf 0 k₀) (rowsOf 0 v₀) (rowsOf 0 k₁) (rowsOf 0 v₁) 0
        slices_S256x256_o0_0_S128x64 slices_S256x256_o0_64_S128x64 slices_S256x256_o0_128_S128x64 slices_S256x256_o0_192_S128x64⟩,
     ⟨S128x256, batchOut (queries X0 X1) (rowsOf 1 k₀) (rowsOf 1 v₀) (rowsOf 1 k₁) (rowsOf 1 v₁) 128
        slices_S256x256_o128_0_S128x64 slices_S256x256_o128_64_S128x64 slices_S256x256_o128_128_S128x64 slices_S256x256_o128_192_S128x64⟩]
    concatenates_S128x256_S128x256_S256x256_d0

/-- What the body stores is the heads' results against the output weights. -/
theorem bodyOut_eq (X0 : Vec F S256x512 .bf16) (X1 : Vec F S512x256 .bf16) (X4 : Vec F S256x512 .bf16) (k₀ v₀ k₁ v₁ : Vec F S2x128x256 .bf16) :
    bodyOut X0 X1 X4 k₀ v₀ k₁ v₁
      = matmul dot_S256x256_S256x512_S256x512_1_0_0_1_n_n none (truncf .bf16 (attnOut X0 X1 k₀ v₀ k₁ v₁) bitsLt_bf16_f32) (k0_pay40 X4)
          (constant S256x512 .f32 0x00000000#32) := rfl

/-- The named constant stands for −∞. -/
theorem mask_bot : Named.named (F := Ideal) (φ := .f32) κ "mask" 0xCE6E6B28#32 = (⊥ : EReal) :=
  (IdealRules.named_const.statement κ "mask" .f32 0xCE6E6B28#32 ⊥ rfl).2.2

/-- The mask of the second block: nothing where the key is not after the query, −∞ elsewhere. -/
theorem mask_apply (i l : Fin 128) : (k0_pay9 : FVec Ideal S128x128 .f32) (ix2 i l) = Softmax.bias i l := by
  unfold Softmax.bias
  pointwise [k0_pay9, mask_bot]
  have hi := i.isLt
  have hl := l.isLt
  rw [Softmax.sle_word l.val i.val (by omega) (by omega)]
  split <;> rfl

theorem headOut_apply (q k₀ v₀ k₁ v₁ : FVec Ideal S128x64 .bf16) (i : Fin 128) (d : Fin 64) :
    headOut q k₀ v₀ k₁ v₁ (ix2 i d) = Softmax.blocks i (fun l => ∑ e : Fin 64, q (ix2 i e) * k₀ (ix2 l e)) (fun l => ∑ e : Fin 64, q (ix2 i e) * k₁ (ix2 l e))
      (fun l => v₀ (ix2 l d)) (fun l => v₁ (ix2 l d)) := by
  pointwise [headOut, mixed, total, expo₀, expo₁, Softmax.blocks, mask_apply]

/-- A head's result, from the whole queries, keys and values, its columns from `n` and its queries from row `b`. -/
def headVal (q : FVec Ideal S256x256 .bf16) (k₀ v₀ k₁ v₁ : FVec Ideal S128x256 .bf16) (b n : ℕ) (hb : b + 128 ≤ 256) (hn : n + 64 ≤ 256)
    (i : Fin 128) (d : Fin 64) : EReal :=
  Softmax.blocks i (fun l => ∑ e : Fin 64, q (ix2 ⟨b + i.val, by omega⟩ ⟨n + e.val, by omega⟩) * k₀ (ix2 l ⟨n + e.val, by omega⟩))
    (fun l => ∑ e : Fin 64, q (ix2 ⟨b + i.val, by omega⟩ ⟨n + e.val, by omega⟩) * k₁ (ix2 l ⟨n + e.val, by omega⟩))
    (fun l => v₀ (ix2 l ⟨n + d.val, by omega⟩)) (fun l => v₁ (ix2 l ⟨n + d.val, by omega⟩))

theorem slice_q (q : FVec Ideal S256x256 .bf16) (b n : ℕ) (hb : b + 128 ≤ 256) (hn : n + 64 ≤ 256) (hq : S256x256.Slices ![b, n] S128x64)
    (i : Fin 128) (e : Fin 64) :
    extractStridedSlice S128x64 ![b, n] q hq (ix2 i e) = q (ix2 ⟨b + i.val, by omega⟩ ⟨n + e.val, by omega⟩) := by
  refine extractStridedSlice_apply _ _ _ _ _ fun a => ?_
  match a with
  | ⟨0, _⟩ => rfl
  | ⟨1, _⟩ => rfl

theorem slice_k (k : FVec Ideal S128x256 .bf16) (n : ℕ) (hn : n + 64 ≤ 256) (hk : S128x256.Slices ![0, n] S128x64)
    (l : Fin 128) (e : Fin 64) :
    extractStridedSlice S128x64 ![0, n] k hk (ix2 l e) = k (ix2 l ⟨n + e.val, by omega⟩) := by
  refine extractStridedSlice_apply _ _ _ _ _ fun a => ?_
  match a with
  | ⟨0, _⟩ => exact (Nat.zero_add _).symm
  | ⟨1, _⟩ => rfl

theorem headAt_apply (q : FVec Ideal S256x256 .bf16) (k₀ v₀ k₁ v₁ : FVec Ideal S128x256 .bf16) (b n : ℕ) (hb : b + 128 ≤ 256) (hn : n + 64 ≤ 256)
    (hq : S256x256.Slices ![b, n] S128x64) (hk : S128x256.Slices ![0, n] S128x64) (i : Fin 128) (d : Fin 64) :
    headAt q k₀ v₀ k₁ v₁ ![b, n] ![0, n] hq hk (ix2 i d) = headVal q k₀ v₀ k₁ v₁ b n hb hn i d := by
  refine (headOut_apply _ _ _ _ _ i d).trans ?_
  unfold headVal
  simp only [slice_q q b n hb hn hq, slice_k _ n hn hk]

/-- Four blocks of columns side by side. -/
theorem quad_apply (x : Fin 4 → FVec Ideal S128x64 .f32)
    (hc : Shape.Concatenates [S128x64, S128x64, S128x64, S128x64] S128x256 1) (i : Fin 128) (h : Fin 4) (d : Fin 64) :
    concatenate S128x256 1 [⟨S128x64, x 0⟩, ⟨S128x64, x 1⟩, ⟨S128x64, x 2⟩, ⟨S128x64, x 3⟩] hc (ix2 i ⟨h.val * 64 + d.val, by omega⟩) = x h (ix2 i d) := by
  match h with
  | ⟨0, _⟩ =>
    refine concatenate_apply_piece (t := S128x256) (1 : Fin 2) [⟨S128x64, x 0⟩, ⟨S128x64, x 1⟩, ⟨S128x64, x 2⟩, ⟨S128x64, x 3⟩] hc _ 0 (by simp) S128x64 (x 0) rfl rfl 0 rfl (ix2 i d) ?_ rfl
    intro a ha
    match a with
    | ⟨1, _⟩ => exact absurd rfl ha
    | ⟨0, _⟩ => rfl
  | ⟨1, _⟩ =>
    refine concatenate_apply_piece (t := S128x256) (1 : Fin 2) [⟨S128x64, x 0⟩, ⟨S128x64, x 1⟩, ⟨S128x64, x 2⟩, ⟨S128x64, x 3⟩] hc _ 1 (by simp) S128x64 (x 1) rfl rfl 64 rfl (ix2 i d) ?_ rfl
    intro a ha
    match a with
    | ⟨1, _⟩ => exact absurd rfl ha
    | ⟨0, _⟩ => rfl
  | ⟨2, _⟩ =>
    refine concatenate_apply_piece (t := S128x256) (1 : Fin 2) [⟨S128x64, x 0⟩, ⟨S128x64, x 1⟩, ⟨S128x64, x 2⟩, ⟨S128x64, x 3⟩] hc _ 2 (by simp) S128x64 (x 2) rfl rfl 128 rfl (ix2 i d) ?_ rfl
    intro a ha
    match a with
    | ⟨1, _⟩ => exact absurd rfl ha
    | ⟨0, _⟩ => rfl
  | ⟨3, _⟩ =>
    refine concatenate_apply_piece (t := S128x256) (1 : Fin 2) [⟨S128x64, x 0⟩, ⟨S128x64, x 1⟩, ⟨S128x64, x 2⟩, ⟨S128x64, x 3⟩] hc _ 3 (by simp) S128x64 (x 3) rfl rfl 192 rfl (ix2 i d) ?_ rfl
    intro a ha
    match a with
    | ⟨1, _⟩ => exact absurd rfl ha
    | ⟨0, _⟩ => rfl

/-- Two blocks of rows, one under the other. -/
theorem pair_apply (x : Fin 2 → FVec Ideal S128x256 .f32)
    (hc : Shape.Concatenates [S128x256, S128x256] S256x256 0) (b : Fin 2) (i : Fin 128) (n : Fin 256) :
    concatenate S256x256 0 [⟨S128x256, x 0⟩, ⟨S128x256, x 1⟩] hc (ix2 ⟨b.val * 128 + i.val, by omega⟩ n) = x b (ix2 i n) := by
  match b with
  | ⟨0, _⟩ =>
    refine concatenate_apply_piece (t := S256x256) (0 : Fin 2) [⟨S128x256, x 0⟩, ⟨S128x256, x 1⟩] hc _ 0 (by simp) S128x256 (x 0) rfl rfl 0 rfl (ix2 i n) ?_ rfl
    intro a ha
    match a with
    | ⟨0, _⟩ => exact absurd rfl ha
    | ⟨1, _⟩ => rfl
  | ⟨1, _⟩ =>
    refine concatenate_apply_piece (t := S256x256) (0 : Fin 2) [⟨S128x256, x 0⟩, ⟨S128x256, x 1⟩] hc _ 1 (by simp) S128x256 (x 1) rfl rfl 128 rfl (ix2 i n) ?_ rfl
    intro a ha
    match a with
    | ⟨0, _⟩ => exact absurd rfl ha
    | ⟨1, _⟩ => rfl

theorem batchOut_apply (q : FVec Ideal S256x256 .bf16) (k₀ v₀ k₁ v₁ : FVec Ideal S128x256 .bf16) (b : ℕ) (hb : b + 128 ≤ 256)
    (h0 : S256x256.Slices ![b, 0] S128x64) (h1 : S256x256.Slices ![b, 64] S128x64)
    (h2 : S256x256.Slices ![b, 128] S128x64) (h3 : S256x256.Slices ![b, 192] S128x64) (i : Fin 128) (h : Fin 4) (d : Fin 64) :
    batchOut q k₀ v₀ k₁ v₁ b h0 h1 h2 h3 (ix2 i ⟨h.val * 64 + d.val, by omega⟩)
      = headVal q k₀ v₀ k₁ v₁ b (h.val * 64) hb (by omega) i d := by
  refine (quad_apply (fun h => match h with
    | ⟨0, _⟩ => headAt q k₀ v₀ k₁ v₁ ![b, 0] ![0, 0] h0 slices_S128x256_o0_0_S128x64
    | ⟨1, _⟩ => headAt q k₀ v₀ k₁ v₁ ![b, 64] ![0, 64] h1 slices_S128x256_o0_64_S128x64
    | ⟨2, _⟩ => headAt q k₀ v₀ k₁ v₁ ![b, 128] ![0, 128] h2 slices_S128x256_o0_128_S128x64
    | ⟨3, _⟩ => headAt q k₀ v₀ k₁ v₁ ![b, 192] ![0, 192] h3 slices_S128x256_o0_192_S128x64) _ i h d).trans ?_
  match h with
  | ⟨0, _⟩ => exact headAt_apply q k₀ v₀ k₁ v₁ b 0 hb (by omega) _ _ i d
  | ⟨1, _⟩ => exact headAt_apply q k₀ v₀ k₁ v₁ b 64 hb (by omega) _ _ i d
  | ⟨2, _⟩ => exact headAt_apply q k₀ v₀ k₁ v₁ b 128 hb (by omega) _ _ i d
  | ⟨3, _⟩ => exact headAt_apply q k₀ v₀ k₁ v₁ b 192 hb (by omega) _ _ i d

theorem rowsOf_apply (h : Fin 2) (k : Vec Ideal S2x128x256 .bf16) (j : Fin 128) (n : Fin 256) : rowsOf h k (ix2 j n) = k (ix3 h j n) := by
  pointwise [rowsOf, batchRow]
  refine congrArg k (funext fun a => ?_)
  match a with
  | ⟨0, _⟩ => rfl
  | ⟨1, _⟩ => rfl
  | ⟨2, _⟩ => rfl

theorem queries_apply (X0 : Vec Ideal S256x512 .bf16) (X1 : Vec Ideal S512x256 .bf16) (r n : Fin 256) :
    queries X0 X1 (ix2 r n) = (∑ c : Fin 512, X0 (ix2 r c) * X1 (ix2 c n)) * ((1 / 8 : ℝ) : EReal) := by
  pointwise [queries, k0_pay6, k0_pay7, k0_pay8]
  rw [Softmax.eighth]

theorem attnOut_apply (X0 : Vec Ideal S256x512 .bf16) (X1 : Vec Ideal S512x256 .bf16) (k₀ v₀ k₁ v₁ : Vec Ideal S2x128x256 .bf16)
    (b : Fin 2) (i : Fin 128) (h : Fin 4) (d : Fin 64) :
    attnOut X0 X1 k₀ v₀ k₁ v₁ (ix2 ⟨b.val * 128 + i.val, by omega⟩ ⟨h.val * 64 + d.val, by omega⟩)
      = headVal (queries X0 X1) (rowsOf b k₀) (rowsOf b v₀) (rowsOf b k₁) (rowsOf b v₁) (b.val * 128) (h.val * 64) (by omega) (by omega) i d := by
  refine (pair_apply (fun b => match b with
    | ⟨0, _⟩ => batchOut (queries X0 X1) (rowsOf 0 k₀) (rowsOf 0 v₀) (rowsOf 0 k₁) (rowsOf 0 v₁) 0
        slices_S256x256_o0_0_S128x64 slices_S256x256_o0_64_S128x64 slices_S256x256_o0_128_S128x64 slices_S256x256_o0_192_S128x64
    | ⟨1, _⟩ => batchOut (queries X0 X1) (rowsOf 1 k₀) (rowsOf 1 v₀) (rowsOf 1 k₁) (rowsOf 1 v₁) 128
        slices_S256x256_o128_0_S128x64 slices_S256x256_o128_64_S128x64 slices_S256x256_o128_128_S128x64 slices_S256x256_o128_192_S128x64)
    _ b i ⟨h.val * 64 + d.val, by omega⟩).trans ?_
  match b with
  | ⟨0, _⟩ => exact batchOut_apply _ _ _ _ _ 0 (by omega) _ _ _ _ i h d
  | ⟨1, _⟩ => exact batchOut_apply _ _ _ _ _ 128 (by omega) _ _ _ _ i h d

/-- The body's result at a row and a column. -/
theorem bodyOut_apply (X0 : Vec Ideal S256x512 .bf16) (X1 : Vec Ideal S512x256 .bf16) (X4 : Vec Ideal S256x512 .bf16) (k₀ v₀ k₁ v₁ : Vec Ideal S2x128x256 .bf16)
    (r : Fin 256) (o : Fin 512) :
    bodyOut X0 X1 X4 k₀ v₀ k₁ v₁ (ix2 r o) = ∑ n : Fin 256, attnOut X0 X1 k₀ v₀ k₁ v₁ (ix2 r n) * X4 (ix2 n o) := by
  rw [bodyOut_eq]
  pointwise [k0_pay40]

end Cert.KernelIdeal.Ex

end
-- ==== Proof.RefRead.lean ====
module

public import proofs.«01_k».proof.Proof.Gen.ReferenceIdeal.Run
public import proofs.«01_k».proof.Proof.Softmax
public import Idealize.ShloMosaic.Lib.Pointwise

@[expose] public section

noncomputable section

namespace Cert.ReferenceIdeal.Ex

open Idealize.ShloMosaic Idealize.ShloMosaic.TcCoe
open Cert.ReferenceIdeal Cert.ReferenceIdeal.Gen

/-- The mask: key `j` is at most 128 away from query `i`. -/
def seen : IVec S128x512 1 :=
  cmpi .sle (absi (subi (broadcastInDim S128x512 ![0, 1] bcast_S128x1_S128x512_0_1 (broadcastInDim S128x1 ![0] bcast_S128_S128x1_0 (iotaInDim S128 32 0))) (broadcastInDim S128x512 ![0, 1] bcast_S1x512_S128x512_0_1 (broadcastInDim S1x512 ![1] bcast_S512_S1x512_1 (iotaInDim S512 32 0))))) (broadcastInDim S128x512 ![] bcast_S_S128x512 (constantI S_ 32 128#32))

/-- Whether a query sees a key. -/
def anySeen : IVec S128 1 := Host.reduce IntOp.ori seen (constantI S_ 1 0#1) reducesTo_S128x512_S128_d1 h_S_

theorem seen_apply (i : Fin 128) (j : Fin 512) : seen (ix2 i j) = if j.val ≤ i.val + 128 then 1#1 else 0#1 := by
  pointwise [seen]
  have hi := i.isLt
  have hj := j.isLt
  have hd : (BitVec.ofNat 32 i.val - BitVec.ofNat 32 j.val).toInt = (i.val : ℤ) - j.val := by
    rw [BitVec.toInt_sub, Softmax.toInt_word _ (by omega), Softmax.toInt_word _ (by omega)]
    simp only [Int.bmod_def]
    omega
  have ha : (IntOp.absi (IntOp.subi (BitVec.ofNat 32 i.val) (BitVec.ofNat 32 j.val))).toInt = |(i.val : ℤ) - j.val| := by
    unfold IntOp.absi IntOp.subi
    rw [BitVec.msb_eq_toInt, hd]
    by_cases h : (i.val : ℤ) - j.val < 0
    · rw [decide_eq_true h, if_pos rfl, BitVec.toInt_neg, hd, abs_of_neg h]
      simp only [Int.bmod_def]
      omega
    · rw [decide_eq_false h, if_neg (by decide), hd, abs_of_nonneg (by omega)]
  have e : ∀ x y : BitVec 32, IntOp.cmpi .sle x y = BitVec.ofBool (decide (x.toInt ≤ y.toInt)) := fun _ _ => rfl
  rw [e, ha]
  have h128 : (128#32 : BitVec 32).toInt = 128 := by decide
  rw [h128]
  by_cases h : j.val ≤ i.val + 128
  · rw [if_pos h, decide_eq_true (by rw [abs_le]; omega)]; rfl
  · rw [if_neg h, decide_eq_false (by rw [abs_le]; omega)]; rfl

theorem anySeen_apply (i : Fin 128) : anySeen (ix1 i) = 1#1 := by
  pointwise [anySeen]
  have h0 : seen (ix2 i 0) = 1#1 := by rw [seen_apply, if_pos (by simp)]
  rw [← Finset.insert_erase (Finset.mem_univ (0 : Fin 512)), Finset.fold_insert (by simp), h0]
  generalize Finset.fold IntOp.ori _ _ _ = x
  revert x
  decide

/-! ## The reference's stages -/

/-- The queries, head by head. -/
def refQ (x : FVec Ideal S2x128x512 .bf16) (Wq : FVec Ideal S512x256 .bf16) : FVec Ideal S2x128x4x64 .bf16 :=
  shapeCast _ (truncf .bf16 (Host.dotGeneral dot_S2x128x512_S512x256_S2x128x256_2_0_01_1_n_n none x Wq) bitsLt_bf16_f32) shapeCasts_S2x128x256_S2x128x4x64

/-- The scaled scores. -/
def refScores (q : FVec Ideal S2x128x4x64 .bf16) (K : FVec Ideal S2x512x4x64 .bf16) : FVec Ideal S2x4x128x512 .f32 :=
  mulf (extf .f32 (truncf .bf16 (Host.dotGeneral dot_S2x128x4x64_S2x512x4x64_S2x4x128x512_3_3_1_1_02_02 none q K) bitsLt_bf16_f32) bitsLt_bf16_f32)
    (broadcastInDim S2x4x128x512 ![] bcast_S_S2x4x128x512 (constant S_ .f32 0x3E000000#32))

/-- The masked scores. -/
def refMasked (s : FVec Ideal S2x4x128x512 .f32) : FVec Ideal S2x4x128x512 .f32 :=
  select (broadcastInDim S2x4x128x512 ![0, 1, 2, 3] bcast_S1x1x128x512_S2x4x128x512_0_1_2_3 (broadcastInDim S1x1x128x512 ![2, 3] bcast_S128x512_S1x1x128x512_2_3 seen))
    s (broadcastInDim S2x4x128x512 ![] bcast_S_S2x4x128x512 (id (constant S_ .f32 0xFF800000#32)))

/-- The weights before they are normalised. -/
def refWeights (t : FVec Ideal S2x4x128x512 .f32) : FVec Ideal S2x4x128x512 .f32 :=
  Host.exp (subf t (broadcastInDim S2x4x128x512 ![0, 1, 2, 3] bcast_S2x4x128x1_S2x4x128x512_0_1_2_3 (broadcastInDim S2x4x128x1 ![0, 1, 2] bcast_S2x4x128_S2x4x128x1_0_1_2
    (Host.reduce FloatOps.maximumf t (constant S_ .f32 0xFF800000#32) reducesTo_S2x4x128x512_S2x4x128_d3 h_S_))))

/-- The normaliser of each query. -/
def refTotal (w : FVec Ideal S2x4x128x512 .f32) : FVec Ideal S2x4x128x1 .f32 :=
  select (broadcastInDim S2x4x128x1 ![0, 1, 2, 3] bcast_S1x1x128x1_S2x4x128x1_0_1_2_3 (broadcastInDim S1x1x128x1 ![2] bcast_S128_S1x1x128x1_2 anySeen))
    (broadcastInDim S2x4x128x1 ![0, 1, 2] bcast_S2x4x128_S2x4x128x1_0_1_2 (Host.reduceAdd w (constant S_ .f32 0x00000000#32) reducesTo_S2x4x128x512_S2x4x128_d3 h_S_))
    (broadcastInDim S2x4x128x1 ![] bcast_S_S2x4x128x1 (id (constant S_ .f32 0x3F800000#32)))

/-- The normalised weights. -/
def refNorm (w : FVec Ideal S2x4x128x512 .f32) : FVec Ideal S2x4x128x512 .f32 :=
  select (broadcastInDim S2x4x128x512 ![0, 1, 2, 3] bcast_S1x1x128x1_S2x4x128x512_0_1_2_3 (broadcastInDim S1x1x128x1 ![2] bcast_S128_S1x1x128x1_2 anySeen))
    (Host.divf w (broadcastInDim S2x4x128x512 ![0, 1, 2, 3] bcast_S2x4x128x1_S2x4x128x512_0_1_2_3 (refTotal w)))
    (broadcastInDim S2x4x128x512 ![] bcast_S_S2x4x128x512 (id (constant S_ .f32 0x00000000#32)))

/-- The heads' results side by side. -/
def refCtx (V : FVec Ideal S2x512x4x64 .bf16) (w : FVec Ideal S2x4x128x512 .f32) : FVec Ideal S2x128x256 .f32 :=
  shapeCast _ (transpose S2x128x4x64 [0, 3, 1, 2] (Host.dotGeneral dot_S2x512x4x64_S2x4x128x512_S2x4x64x128_1_3_3_2_02_01 none (extf .f32 V bitsLt_bf16_f32) w)
    transposes_S2x4x64x128_S2x128x4x64_0_3_1_2) shapeCasts_S2x128x4x64_S2x128x256

/-- The reference's result. -/
def refOut (x : FVec Ideal S2x128x512 .bf16) (Wq : FVec Ideal S512x256 .bf16) (K V : FVec Ideal S2x512x4x64 .bf16) (Wo : FVec Ideal S256x512 .bf16) :
    FVec Ideal S2x128x512 .f32 :=
  Host.dotGeneral dot_S2x128x256_S256x512_S2x128x512_2_0_01_1_n_n none
    (refCtx V (refNorm (refWeights (refMasked (refScores (refQ x Wq) K))))) (extf .f32 Wo bitsLt_bf16_f32)

theorem res_eq (m : (ℓ : Loc nD τ sig) → Buf (Elt Ideal) ℓ) (c : Dev nD) :
    Value.res_main_v39 m c = refOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## Read at an index -/

theorem refQ_apply (x : FVec Ideal S2x128x512 .bf16) (Wq : FVec Ideal S512x256 .bf16) (b : Fin 2) (i : Fin 128) (h : Fin 4) (e : Fin 64) :
    refQ x Wq (ix4 b i h e) = ∑ c : Fin 512, x (ix3 b i c) * Wq (ix2 c ⟨h.val * 64 + e.val, by omega⟩) := by
  unfold refQ
  refine (shapeCast_apply _ _ _ (ix3 b i ⟨h.val * 64 + e.val, by omega⟩) ?_).trans ?_
  · rw [Shape.rowMajor_val_three, Shape.rowMajor_val_four]
    simp
    omega
  · pointwise

theorem refScores_apply (q : FVec Ideal S2x128x4x64 .bf16) (K : FVec Ideal S2x512x4x64 .bf16) (b : Fin 2) (h : Fin 4) (i : Fin 128) (j : Fin 512) :
    refScores q K (ix4 b h i j) = (∑ e : Fin 64, q (ix4 b i h e) * K (ix4 b j h e)) * ((1 / 8 : ℝ) : EReal) := by
  pointwise [refScores]
  rw [Softmax.eighth]

theorem refMasked_apply (s : FVec Ideal S2x4x128x512 .f32) (b : Fin 2) (h : Fin 4) (i : Fin 128) (j : Fin 512) :
    refMasked s (ix4 b h i j) = Softmax.masked i (fun j => s (ix4 b h i j)) j := by
  unfold Softmax.masked
  pointwise [refMasked, seen_apply]
  have e : (id (constant (F := Ideal) S_ .f32 0xFF800000#32)) ix0 = (⊥ : EReal) := Softmax.minus_inf
  rw [e]
  split <;> rfl

theorem refWeights_apply (s : FVec Ideal S2x4x128x512 .f32) (b : Fin 2) (h : Fin 4) (i : Fin 128) (j : Fin 512) :
    refWeights (refMasked s) (ix4 b h i j) = Softmax.weight i (fun j => s (ix4 b h i j)) j := by
  unfold Softmax.weight
  pointwise [refWeights, refMasked_apply]
  rw [Softmax.minus_inf]

theorem refTotal_apply (w : FVec Ideal S2x4x128x512 .f32) (b : Fin 2) (h : Fin 4) (i : Fin 128) (z : Fin 1) :
    refTotal w (ix4 b h i z) = 0 + ∑ j, w (ix4 b h i j) := by
  rw [zero_add]
  pointwise [refTotal, anySeen_apply]

theorem refNorm_apply (w : FVec Ideal S2x4x128x512 .f32) (b : Fin 2) (h : Fin 4) (i : Fin 128) (j : Fin 512) :
    refNorm w (ix4 b h i j) = Ideal.div (w (ix4 b h i j)) (0 + ∑ j, w (ix4 b h i j)) := by
  pointwise [refNorm, anySeen_apply, refTotal_apply]

theorem refCtx_apply (V : FVec Ideal S2x512x4x64 .bf16) (w : FVec Ideal S2x4x128x512 .f32) (b : Fin 2) (i : Fin 128) (h : Fin 4) (d : Fin 64) :
    refCtx V w (ix3 b i ⟨h.val * 64 + d.val, by omega⟩) = ∑ j : Fin 512, V (ix4 b j h d) * w (ix4 b h i j) := by
  unfold refCtx
  refine (shapeCast_apply _ _ _ (ix4 b i h d) ?_).trans ?_
  · rw [Shape.rowMajor_val_three, Shape.rowMajor_val_four]
    simp
    omega
  · pointwise

theorem refOut_apply (x : FVec Ideal S2x128x512 .bf16) (Wq : FVec Ideal S512x256 .bf16) (K V : FVec Ideal S2x512x4x64 .bf16) (Wo : FVec Ideal S256x512 .bf16)
    (b : Fin 2) (i : Fin 128) (o : Fin 512) :
    refOut x Wq K V Wo (ix3 b i o)
      = ∑ n : Fin 256, refCtx V (refNorm (refWeights (refMasked (refScores (refQ x Wq) K)))) (ix3 b i n) * Wo (ix2 n o) := by
  pointwise [refOut]

end Cert.ReferenceIdeal.Ex

end
-- ==== Proof.Value.lean ====
module

public import proofs.«01_k».proof.Defs
public import proofs.«01_k».proof.Proof.Arrays
public import proofs.«01_k».proof.Proof.Heads
public import proofs.«01_k».proof.Proof.RefRead
public import Idealize.ShloMosaic.Lib.LayoutAt

@[expose] public section

noncomputable section

/-! Every device's result is the reference's, when the hidden states, the query weights and the keys are finite. -/

namespace Cert.Value

open Idealize.ShloMosaic Idealize.ShloMosaic.TcCoe Idealize.SL.Sem
open Cert.KernelIdeal.Ex Cert.ReferenceIdeal.Ex

/-! ## What the precondition says of an entry -/

theorem plus_inf : Ideal.ofBits .bf16 0x7F80#16 = ⊤ := by
  simp [Ideal.ofBits, Ideal.ieee, -EReal.coe_mul]

/-- An extended real whose size is below the greatest is a real. -/
theorem real_of_lt (x : EReal) (h : Ideal.cmp .olt (max x (-x)) (Ideal.ofBits .bf16 0x7F80#16) = 1#1) : ((x.toReal : ℝ) : EReal) = x := by
  rw [plus_inf] at h
  have hl : max x (-x) < ⊤ := by
    by_contra hn
    revert h
    simp [Ideal.cmp, hn]
  refine EReal.coe_toReal (fun e => ?_) (fun e => ?_)
  · rw [e] at hl; simp at hl
  · rw [e] at hl; simp at hl

theorem pre_facts : Cert.Pre_finite_inputs_KernelIdeal.Facts := ⟨by decide, by decide, by decide⟩

variable (m : (ℓ : Loc Cert.KernelIdeal.nD Cert.KernelIdeal.τ Cert.KernelIdeal.sig) → Buf (Elt Ideal) ℓ)

theorem real_x (hp : Cert.Pre_KernelIdeal_finite_inputs_KernelIdeal (hPre_finite_inputs_KernelIdeal := pre_facts) m) (c : Dev Cert.KernelIdeal.nD)
    (b : Fin 2) (i : Fin 128) (n : Fin 512) :
    (((m ((c : Thread Cert.KernelIdeal.nD Cert.KernelIdeal.τ).loc Cert.KernelIdeal.main_arg0) (ix3 b i n) : EReal).toReal : ℝ) : EReal)
      = m ((c : Thread Cert.KernelIdeal.nD Cert.KernelIdeal.τ).loc Cert.KernelIdeal.main_arg0) (ix3 b i n) :=
  real_of_lt _ (congrFun (hp c).1 (ix3 b i n))

theorem real_wq (hp : Cert.Pre_KernelIdeal_finite_inputs_KernelIdeal (hPre_finite_inputs_KernelIdeal := pre_facts) m) (c : Dev Cert.KernelIdeal.nD)
    (n : Fin 512) (k : Fin 256) :
    (((m ((c : Thread Cert.KernelIdeal.nD Cert.KernelIdeal.τ).loc Cert.KernelIdeal.main_arg1) (ix2 n k) : EReal).toReal : ℝ) : EReal)
      = m ((c : Thread Cert.KernelIdeal.nD Cert.KernelIdeal.τ).loc Cert.KernelIdeal.main_arg1) (ix2 n k) :=
  real_of_lt _ (congrFun (hp c).2.1 (ix2 n k))

theorem real_key (hp : Cert.Pre_KernelIdeal_finite_inputs_KernelIdeal (hPre_finite_inputs_KernelIdeal := pre_facts) m) (c : Dev Cert.KernelIdeal.nD)
    (b : Fin 2) (j : Fin 128) (h : Fin 4) (e : Fin 64) :
    (((m ((c : Thread Cert.KernelIdeal.nD Cert.KernelIdeal.τ).loc Cert.KernelIdeal.main_arg2) (ix4 b j h e) : EReal).toReal : ℝ) : EReal)
      = m ((c : Thread Cert.KernelIdeal.nD Cert.KernelIdeal.τ).loc Cert.KernelIdeal.main_arg2) (ix4 b j h e) :=
  real_of_lt _ (congrFun (hp c).2.2 (ix4 b j h e))

/-! ## A block of keys or values, in the whole array -/

theorem block_at (v : (⟨4, ![2, 512, 4, 64]⟩ : Shape).Idx → EReal) (c : Fin 4) (b : Fin 2) (j : Fin 128) (h : Fin 4) (e : Fin 64) :
    Layout.block ⟨4, ![2, 128, 4, 64]⟩ ⟨4, ![2, 512, 4, 64]⟩ 1 4 c v (by decide) (ix4 b j h e)
      = v (ix4 b ⟨c.val * 128 + j.val, by omega⟩ h e) := by
  simp only [Layout.block_apply]
  refine congrArg v (funext fun a => Fin.ext ?_)
  match a with
  | ⟨0, _⟩ => rfl
  | ⟨1, _⟩ => rfl
  | ⟨2, _⟩ => rfl
  | ⟨3, _⟩ => rfl

/-! ## One score -/

/-- A score of reals: the scale taken on the queries, or on the score. -/
theorem score (x : Fin 512 → ℝ) (w : Fin 512 → Fin 64 → ℝ) (k : Fin 64 → ℝ) :
    (∑ e, ((∑ n, (x n : EReal) * (w n e : EReal)) * ((1 / 8 : ℝ) : EReal)) * (k e : EReal))
      = (((∑ e, (∑ n, x n * w n e) * k e) * (1 / 8) : ℝ) : EReal) := by
  have h : ∀ e, ((∑ n, (x n : EReal) * (w n e : EReal)) * ((1 / 8 : ℝ) : EReal)) * (k e : EReal) = (((∑ n, x n * w n e) * (1 / 8) * k e : ℝ) : EReal) := by
    intro e
    rw [EReal.coe_mul, EReal.coe_mul, ← Softmax.coe_sum]
    simp only [EReal.coe_mul]
  rw [Finset.sum_congr rfl fun e _ => h e, Softmax.coe_sum, Finset.sum_mul]
  exact congrArg _ (Finset.sum_congr rfl fun e _ => by ring)

theorem score' (x : Fin 512 → ℝ) (w : Fin 512 → Fin 64 → ℝ) (k : Fin 64 → ℝ) :
    (∑ e, (∑ n, (x n : EReal) * (w n e : EReal)) * (k e : EReal)) * ((1 / 8 : ℝ) : EReal)
      = (((∑ e, (∑ n, x n * w n e) * k e) * (1 / 8) : ℝ) : EReal) := by
  rw [EReal.coe_mul, ← Softmax.coe_sum]
  simp only [EReal.coe_mul, ← Softmax.coe_sum]

/-! ## One head's result -/

section Head

variable (x : FVec Ideal Cert.ReferenceIdeal.S2x128x512 .bf16) (Wq : FVec Ideal Cert.ReferenceIdeal.S512x256 .bf16)
variable (K V : FVec Ideal Cert.ReferenceIdeal.S2x512x4x64 .bf16)

/-- The real scores of one query. -/
def scores (b : Fin 2) (i : Fin 128) (h : Fin 4) (j : Fin 512) : ℝ :=
  (∑ e : Fin 64, (∑ n : Fin 512, (x (ix3 b i n) : EReal).toReal * (Wq (ix2 n ⟨h.val * 64 + e.val, by omega⟩) : EReal).toReal) * (K (ix4 b j h e) : EReal).toReal) * (1 / 8)

variable (hx : ∀ b i n, (((x (ix3 b i n) : EReal).toReal : ℝ) : EReal) = x (ix3 b i n))
variable (hw : ∀ n k, (((Wq (ix2 n k) : EReal).toReal : ℝ) : EReal) = Wq (ix2 n k))
variable (hk : ∀ b j h e, (((K (ix4 b j h e) : EReal).toReal : ℝ) : EReal) = K (ix4 b j h e))

include hx hw hk

theorem ref_score (b : Fin 2) (i : Fin 128) (h : Fin 4) (j : Fin 512) :
    refScores (refQ x Wq) K (ix4 b h i j) = ((scores x Wq K b i h j : ℝ) : EReal) := by
  rw [refScores_apply]
  unfold scores
  rw [← score']
  simp only [refQ_apply, hx, hw, hk]

theorem ref_head (b : Fin 2) (i : Fin 128) (h : Fin 4) (d : Fin 64) :
    refCtx V (refNorm (refWeights (refMasked (refScores (refQ x Wq) K)))) (ix3 b i ⟨h.val * 64 + d.val, by omega⟩)
      = Softmax.whole i (fun j => ((scores x Wq K b i h j : ℝ) : EReal)) (fun j => V (ix4 b j h d)) := by
  rw [refCtx_apply]
  unfold Softmax.whole
  simp only [refNorm_apply, refWeights_apply, ref_score x Wq K hx hw hk]

theorem kernel_score (q : FVec Ideal Cert.KernelIdeal.S256x512 .bf16) (b : Fin 2) (i : Fin 128) (h : Fin 4) (j : Fin 512) (k : Fin 64 → EReal)
    (hq : ∀ n, q (ix2 ⟨b.val * 128 + i.val, by omega⟩ n) = x (ix3 b i n)) (hkk : ∀ e, k e = K (ix4 b j h e)) :
    (∑ e : Fin 64, queries (F := Ideal) q Wq (ix2 ⟨b.val * 128 + i.val, by omega⟩ ⟨h.val * 64 + e.val, by omega⟩) * k e)
      = ((scores x Wq K b i h j : ℝ) : EReal) := by
  unfold scores
  rw [← score]
  simp only [queries_apply, hq, hkk, hx, hw, hk]

theorem kernel_head (q : FVec Ideal Cert.KernelIdeal.S256x512 .bf16) (k₀ v₀ k₁ v₁ : FVec Ideal Cert.KernelIdeal.S2x128x256 .bf16)
    (hq : ∀ (b : Fin 2) (i : Fin 128) n, q (ix2 ⟨b.val * 128 + i.val, by omega⟩ n) = x (ix3 b i n))
    (hk₀ : ∀ b (j : Fin 128) (h : Fin 4) (e : Fin 64), k₀ (ix3 b j ⟨h.val * 64 + e.val, by omega⟩) = K (ix4 b ⟨j.val, by omega⟩ h e))
    (hk₁ : ∀ b (j : Fin 128) (h : Fin 4) (e : Fin 64), k₁ (ix3 b j ⟨h.val * 64 + e.val, by omega⟩) = K (ix4 b ⟨128 + j.val, by omega⟩ h e))
    (hv₀ : ∀ b (j : Fin 128) (h : Fin 4) (e : Fin 64), v₀ (ix3 b j ⟨h.val * 64 + e.val, by omega⟩) = V (ix4 b ⟨j.val, by omega⟩ h e))
    (hv₁ : ∀ b (j : Fin 128) (h : Fin 4) (e : Fin 64), v₁ (ix3 b j ⟨h.val * 64 + e.val, by omega⟩) = V (ix4 b ⟨128 + j.val, by omega⟩ h e))
    (b : Fin 2) (i : Fin 128) (h : Fin 4) (d : Fin 64) :
    attnOut (F := Ideal) q Wq k₀ v₀ k₁ v₁ (ix2 ⟨b.val * 128 + i.val, by omega⟩ ⟨h.val * 64 + d.val, by omega⟩)
      = Softmax.whole i (fun j => ((scores x Wq K b i h j : ℝ) : EReal)) (fun j => V (ix4 b j h d)) := by
  rw [attnOut_apply, ← Softmax.blocks_eq_whole]
  unfold headVal
  simp only [rowsOf_apply, hv₀, hv₁, hk₀, hk₁]
  congr 1
  · exact funext fun l => kernel_score x Wq K hx hw hk q b i h ⟨l.val, by omega⟩ _ (hq b i) fun e => rfl
  · exact funext fun l => kernel_score x Wq K hx hw hk q b i h ⟨128 + l.val, by omega⟩ _ (hq b i) fun e => rfl

end Head

/-! ## The whole result -/

/-- A device's arguments are its parts of the reference's. -/
abbrev Agree (x : FVec Ideal Cert.ReferenceIdeal.S2x128x512 .bf16) (Wq : FVec Ideal Cert.ReferenceIdeal.S512x256 .bf16)
    (K V : FVec Ideal Cert.ReferenceIdeal.S2x512x4x64 .bf16) (Wo : FVec Ideal Cert.ReferenceIdeal.S256x512 .bf16) (c : Dev Cert.KernelIdeal.nD) : Prop :=
  m ((c.tc : Thread Cert.KernelIdeal.nD Cert.KernelIdeal.τ).loc Cert.KernelIdeal.main_arg0) = x
  ∧ m ((c.tc : Thread Cert.KernelIdeal.nD Cert.KernelIdeal.τ).loc Cert.KernelIdeal.main_arg1) = Wq
  ∧ m ((c.tc : Thread Cert.KernelIdeal.nD Cert.KernelIdeal.τ).loc Cert.KernelIdeal.main_arg2) = Layout.block ⟨4, ![2, 128, 4, 64]⟩ ⟨4, ![2, 512, 4, 64]⟩ 1 4 c K
  ∧ m ((c.tc : Thread Cert.KernelIdeal.nD Cert.KernelIdeal.τ).loc Cert.KernelIdeal.main_arg3) = Layout.block ⟨4, ![2, 128, 4, 64]⟩ ⟨4, ![2, 512, 4, 64]⟩ 1 4 c V
  ∧ m ((c.tc : Thread Cert.KernelIdeal.nD Cert.KernelIdeal.τ).loc Cert.KernelIdeal.main_arg4) = Wo

section Whole

variable {m}
variable {x : FVec Ideal Cert.ReferenceIdeal.S2x128x512 .bf16} {Wq : FVec Ideal Cert.ReferenceIdeal.S512x256 .bf16}
variable {K V : FVec Ideal Cert.ReferenceIdeal.S2x512x4x64 .bf16} {Wo : FVec Ideal Cert.ReferenceIdeal.S256x512 .bf16}
variable (hp : Cert.Pre_KernelIdeal_finite_inputs_KernelIdeal (hPre_finite_inputs_KernelIdeal := pre_facts) m)
variable (ha : ∀ c, Agree m x Wq K V Wo c)

include hp ha

theorem x_real (b : Fin 2) (i : Fin 128) (n : Fin 512) : (((x (ix3 b i n) : EReal).toReal : ℝ) : EReal) = x (ix3 b i n) := by
  have h := real_x m hp 0 b i n
  rwa [(ha 0).1] at h

theorem wq_real (n : Fin 512) (k : Fin 256) : (((Wq (ix2 n k) : EReal).toReal : ℝ) : EReal) = Wq (ix2 n k) := by
  have h := real_wq m hp 0 n k
  rwa [(ha 0).2.1] at h

theorem key_real (b : Fin 2) (j : Fin 512) (h : Fin 4) (e : Fin 64) : (((K (ix4 b j h e) : EReal).toReal : ℝ) : EReal) = K (ix4 b j h e) := by
  have hr := real_key m hp (⟨j.val / 128, by omega⟩ : Fin 4) b ⟨j.val % 128, by omega⟩ h e
  rw [(ha _).2.2.1, block_at] at hr
  have hj : (⟨(⟨j.val / 128, by omega⟩ : Fin 4).val * 128 + (⟨j.val % 128, by omega⟩ : Fin 128).val, by simp; omega⟩ : Fin 512) = j := Fin.ext (by simp; omega)
  rwa [hj] at hr

omit hp in
theorem key_part (c : Fin 4) (b : Fin 2) (j : Fin 128) (h : Fin 4) (e : Fin 64) :
    keyAt m c (ix3 b j ⟨h.val * 64 + e.val, by omega⟩) = K (ix4 b ⟨c.val * 128 + j.val, by omega⟩ h e) := by
  rw [keyAt_apply, (ha _).2.2.1, block_at]

omit hp in
theorem val_part (c : Fin 4) (b : Fin 2) (j : Fin 128) (h : Fin 4) (e : Fin 64) :
    valAt m c (ix3 b j ⟨h.val * 64 + e.val, by omega⟩) = V (ix4 b ⟨c.val * 128 + j.val, by omega⟩ h e) := by
  rw [valAt_apply, (ha _).2.2.2.1, block_at]

/-- The attention's rows before the last product. -/
theorem attn_eq (c : Dev Cert.KernelIdeal.nD) (b : Fin 2) (i : Fin 128) (n : Fin 256) :
    attnOut (hidAt m c) (wqAt m c) (keyAt m 0) (valAt m 0) (keyAt m 1) (valAt m 1) (ix2 ⟨b.val * 128 + i.val, by omega⟩ n)
      = refCtx V (refNorm (refWeights (refMasked (refScores (refQ x Wq) K)))) (ix3 b i n) := by
  have hn : n = ⟨(⟨n.val / 64, by omega⟩ : Fin 4).val * 64 + (⟨n.val % 64, by omega⟩ : Fin 64).val, by simp; omega⟩ := Fin.ext (by simp; omega)
  rw [hn, ref_head x Wq K V (x_real hp ha) (wq_real hp ha) (key_real hp ha), wqAt_eq, (ha c).2.1]
  refine kernel_head x Wq K V (x_real hp ha) (wq_real hp ha) (key_real hp ha) _ _ _ _ _ ?_ ?_ ?_ ?_ ?_ b i _ _
  · intro b i n
    rw [hidAt_apply, (ha c).1]
  · intro b j h e
    rw [key_part ha 0]
    exact congrArg (fun t => K (ix4 b t h e)) (Fin.ext (by simp))
  · intro b j h e
    rw [key_part ha 1]
    exact congrArg (fun t => K (ix4 b t h e)) (Fin.ext (by simp))
  · intro b j h e
    rw [val_part ha 0]
    exact congrArg (fun t => V (ix4 b t h e)) (Fin.ext (by simp))
  · intro b j h e
    rw [val_part ha 1]
    exact congrArg (fun t => V (ix4 b t h e)) (Fin.ext (by simp))

/-- What a device ends with is what the reference computes. -/
theorem out_eq (c : Dev Cert.KernelIdeal.nD) :
    shapeCast Cert.KernelIdeal.S2x128x512 (outAt m c) Cert.KernelIdeal.Gen.facts.shapeCasts_S256x512_S2x128x512 = refOut x Wq K V Wo := by
  refine funext fun y => ?_
  obtain ⟨b, i, o, rfl⟩ : ∃ (b : Fin 2) (i : Fin 128) (o : Fin 512), y = ix3 b i o := ⟨y 0, y 1, y 2, Idealize.ShloMosaic.eq_ix3 y⟩
  refine (shapeCast_apply _ _ _ (ix2 ⟨b.val * 128 + i.val, by omega⟩ o) ?_).trans ?_
  · rw [Shape.rowMajor_val_three, Shape.rowMajor_val_two]
    simp
  · rw [refOut_apply]
    refine (bodyOut_apply _ _ _ _ _ _ _ _ _).trans (Finset.sum_congr rfl fun n _ => ?_)
    rw [attn_eq hp ha, woAt_eq, (ha c).2.2.2.2]

end Whole

/-- The kernel's devices all end with the reference's result. -/
theorem equal : Cert.algebraic_KernelIdeal_ReferenceIdeal_pre_finite_inputs_KernelIdeal (hKernelIdeal := Cert.KernelIdeal.Gen.facts)
    (hReferenceIdeal := Cert.ReferenceIdeal.Gen.facts) (hPre_finite_inputs_KernelIdeal := pre_facts) := by
  intro m g m' g' hp ha
  refine ⟨Cert.ReferenceIdeal.Value.res_main_v39 m' 0, ?_, ?_⟩
  · exact (θ_run _ _ _).mono (fun r h c => ⟨(h.1 c).1.trans ((out_eq hp ha c).trans (res_eq m' 0).symm), (h.1 c).2⟩) (Cert.KernelIdeal.Ex.run_end m g)
  · exact (θ_run _ _ _).mono (fun r h => h 0) (Cert.ReferenceIdeal.Value.run m' g')

end Cert.Value

end
-- ==== Proof.lean ====
/- The certificate: each conjunct of `Cert.Claim` is proved in a module of its own and cited here. -/
module

public import proofs.«01_k».proof.Defs
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts,
    Cert.Frames.kernel_pre_facts, Cert.Frames.reference_pre_facts,
    Cert.Frames.kernel, Cert.Frames.ideal, Cert.Frames.ideal_finite, Cert.Frames.reference, Cert.Frames.reference_finite,
    Cert.Frames.mask_named, Cert.Value.equal⟩

end Cert.Proof

end
